-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S256x512 : Shape := ⟨2, ![256, 512]⟩
abbrev S_ : Shape := ⟨0, ![]⟩

class Facts : Prop where
  bitsLt_bf16_f32 : FTy.bits .bf16 < FTy.bits .f32
  bcast_S_S512x256 : S_.BroadcastsInDim S512x256 (![] : Fin 0 → Fin S512x256.rank)
  bcast_S_S256x16 : S_.BroadcastsInDim S256x16 (![] : Fin 0 → Fin S256x16.rank)

variable [Facts]

def fn {F : FTy → Type} [FloatOps F] (main_arg0 : FVec F S512x256 .bf16) (main_arg1 : FVec F S256x16 .bf16) (main_arg2 : IVec S512x1 32) (main_arg3 : FVec F S4x256x512 .bf16) (main_arg4 : FVec F S256x512 .bf16) : IVec S512x256 1 × IVec S256x16 1 :=
  let main_v0 : FVec F S512x256 .f32 := (extf .f32 · bitsLt_bf16_f32) main_arg0
  let main_v1 : FVec F S512x256 .f32 := Host.absf main_v0
  let main_cst : FVec F S_ .f32 := constant S_ .f32 0x7F800000#32
  let main_v2 : FVec F S512x256 .f32 := broadcastInDim S512x256 ![] bcast_S_S512x256 main_cst
  let main_v3 : IVec S512x256 1 := cmpf .olt main_v1 main_v2
  let main_v4 : FVec F S256x16 .f32 := (extf .f32 · bitsLt_bf16_f32) main_arg1
  let main_v5 : FVec F S256x16 .f32 := Host.absf main_v4
  let main_cst_0 : FVec F S_ .f32 := constant S_ .f32 0x7F800000#32
  let main_v6 : FVec F S256x16 .f32 := broadcastInDim S256x16 ![] bcast_S_S256x16 main_cst_0
  let main_v7 : IVec S256x16 1 := cmpf .olt main_v5 main_v6
  (main_v3, main_v7)
-- ==== Pre_finite_ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S_ : Shape := ⟨0, ![]⟩

class Facts : Prop where
  bitsLt_bf16_f32 : FTy.bits .bf16 < FTy.bits .f32
  bcast_S_S512x256 : S_.BroadcastsInDim S512x256 (![] : Fin 0 → Fin S512x256.rank)
  bcast_S_S256x16 : S_.BroadcastsInDim S256x16 (![] : Fin 0 → Fin S256x16.rank)

variable [Facts]

def fn {F : FTy → Type} [FloatOps F] (main_arg0 : FVec F S512x256 .bf16) (main_arg1 : FVec F S256x16 .bf16) (main_arg2 : IVec S512x1 32) (main_arg3 : FVec F S16x256x512 .bf16) (main_arg4 : FVec F S256x512 .bf16) : IVec S512x256 1 × IVec S256x16 1 :=
  let main_v0 : FVec F S512x256 .f32 := (extf .f32 · bitsLt_bf16_f32) main_arg0
  let main_v1 : FVec F S512x256 .f32 := Host.absf main_v0
  let main_cst : FVec F S_ .f32 := constant S_ .f32 0x7F800000#32
  let main_v2 : FVec F S512x256 .f32 := broadcastInDim S512x256 ![] bcast_S_S512x256 main_cst
  let main_v3 : IVec S512x256 1 := cmpf .olt main_v1 main_v2
  let main_v4 : FVec F S256x16 .f32 := (extf .f32 · bitsLt_bf16_f32) main_arg1
  let main_v5 : FVec F S256x16 .f32 := Host.absf main_v4
  let main_cst_0 : FVec F S_ .f32 := constant S_ .f32 0x7F800000#32
  let main_v6 : FVec F S256x16 .f32 := broadcastInDim S256x16 ![] bcast_S_S256x16 main_cst_0
  let main_v7 : IVec S256x16 1 := cmpf .olt main_v5 main_v6
  (main_v3, main_v7)
-- ==== Kernel.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S256x512 : Shape := ⟨2, ![256, 512]⟩
abbrev S128x512 : Shape := ⟨2, ![128, 512]⟩
abbrev S512x512 : Shape := ⟨2, ![512, 512]⟩
abbrev S4x128x512 : Shape := ⟨3, ![4, 128, 512]⟩
abbrev S3x128x512 : Shape := ⟨3, ![3, 128, 512]⟩
abbrev S3 : Shape := ⟨1, ![3]⟩
abbrev S_ : Shape := ⟨0, ![]⟩
abbrev S512x16 : Shape := ⟨2, ![512, 16]⟩
abbrev S512 : Shape := ⟨1, ![512]⟩
abbrev S1x256x512 : Shape := ⟨3, ![1, 256, 512]⟩
abbrev S1x128x512 : Shape := ⟨3, ![1, 128, 512]⟩
abbrev S1 : Shape := ⟨1, ![1]⟩
abbrev S128x256 : Shape := ⟨2, ![128, 256]⟩

abbrev nBuf : Space → Nat
  | .hbm => 6
  | .vmem => 9
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S4x256x512, .bf16⟩
  | .hbm, ⟨4, _⟩ => ⟨S256x512, .bf16⟩
  | .hbm, ⟨5, _⟩ => ⟨S128x512, .f32⟩
  | .local _ .vmem, ⟨0, _⟩ => ⟨S512x256, .bf16⟩
  | .local _ .vmem, ⟨1, _⟩ => ⟨S256x16, .bf16⟩
  | .local _ .vmem, ⟨2, _⟩ => ⟨S512x1, .i32⟩
  | .local _ .vmem, ⟨3, _⟩ => ⟨S4x256x512, .bf16⟩
  | .local _ .vmem, ⟨4, _⟩ => ⟨S256x512, .bf16⟩
  | .local _ .vmem, ⟨5, _⟩ => ⟨S128x512, .f32⟩
  | .local _ .vmem, ⟨6, _⟩ => ⟨S512x512, .f32⟩
  | .local _ .vmem, ⟨7, _⟩ => ⟨S4x128x512, .bf16⟩
  | .local _ .vmem, ⟨8, _⟩ => ⟨S3x128x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_59 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v113 : BitVec 32 := Scalar.addi v2 c1_i32_59
  let c4_i32_60 : BitVec 32 := 4#32
  let v114 : BitVec 32 := Scalar.remsi v113 c4_i32_60
  let c0_i32_68 : BitVec 32 := 0#32
  let c0_i32_69 : BitVec 32 := 0#32
  ![v114.toNat, 0, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_59 : BitVec 32 := 1#32
  let v113 : BitVec 32 := Scalar.addi v2 c1_i32_59
  let c4_i32_60 : BitVec 32 := 4#32
  let v114 : BitVec 32 := Scalar.remsi v113 c4_i32_60
  let c1_i32_64 : BitVec 32 := 1#32
  let v115 : BitVec 32 := Scalar.muli v114 c1_i32_64
  let v116 : BitVec 32 := Scalar.addi c0_i32_65 v115
  v116.toNat
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_70 : BitVec 32 := 2#32
  let v125 : BitVec 32 := Scalar.addi v2 c2_i32_70
  let c4_i32_71 : BitVec 32 := 4#32
  let v126 : BitVec 32 := Scalar.remsi v125 c4_i32_71
  let c1_i32_75 : BitVec 32 := 1#32
  let v127 : BitVec 32 := Scalar.muli v126 c1_i32_75
  let v128 : BitVec 32 := Scalar.addi c0_i32_76 v127
  v128.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_81 : BitVec 32 := 3#32
  let v137 : BitVec 32 := Scalar.addi v2 c3_i32_81
  let c4_i32_82 : BitVec 32 := 4#32
  let v138 : BitVec 32 := Scalar.remsi v137 c4_i32_82
  let c1_i32_86 : BitVec 32 := 1#32
  let v139 : BitVec 32 := Scalar.muli v138 c1_i32_86
  let v140 : BitVec 32 := Scalar.addi c0_i32_87 v139
  v140.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v149 : BitVec 32 := Scalar.muli v2 c128_i32
  let v150 : Index := Scalar.indexCast v149
  let c0_92 : Index := 0#32
  ![v150.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_126 : BitVec 32 := 128#32
  let v180 : BitVec 32 := Scalar.muli v2 c128_i32_126
  let v181 : Index := Scalar.indexCast v180
  let c0_127 : Index := 0#32
  ![v181.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S512x16 : Shape := ⟨2, ![512, 16]⟩
abbrev S_ : Shape := ⟨0, ![]⟩
abbrev S512 : Shape := ⟨1, ![512]⟩
abbrev S512x512 : Shape := ⟨2, ![512, 512]⟩
abbrev S512x2 : Shape := ⟨2, ![512, 2]⟩
abbrev S2 : Shape := ⟨1, ![2]⟩
abbrev S1x2 : Shape := ⟨2, ![1, 2]⟩
abbrev S1 : Shape := ⟨1, ![1]⟩
abbrev S1x1 : Shape := ⟨2, ![1, 1]⟩
abbrev S512x256x512 : Shape := ⟨3, ![512, 256, 512]⟩

abbrev nBuf : Space → Nat
  | .hbm => 62
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S16x256x512, .bf16⟩
  | .hbm, ⟨4, _⟩ => ⟨S256x512, .bf16⟩
  | .hbm, ⟨5, _⟩ => ⟨S512x256, .f32⟩
  | .hbm, ⟨6, _⟩ => ⟨S256x16, .f32⟩
  | .hbm, ⟨7, _⟩ => ⟨S16x256x512, .f32⟩
  | .hbm, ⟨8, _⟩ => ⟨S256x512, .f32⟩
  | .hbm, ⟨9, _⟩ => ⟨S512x16, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x16, .f32⟩
  | .hbm, ⟨14, _⟩ => ⟨S512x16, .f32⟩
  | .hbm, ⟨15, _⟩ => ⟨S512x16, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S512x16, .f32⟩
  | .hbm, ⟨20, _⟩ => ⟨S512x16, .f32⟩
  | .hbm, ⟨21, _⟩ => ⟨S512x512, .f32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S512x1, .i32⟩
  | .hbm, ⟨26, _⟩ => ⟨S512x2, .i32⟩
  | .hbm, ⟨27, _⟩ => ⟨S2, .i32⟩
  | .hbm, ⟨28, _⟩ => ⟨S_, .i32⟩
  | .hbm, ⟨29, _⟩ => ⟨S512x2, .i32⟩
  | .hbm, ⟨30, _⟩ => ⟨S512x2, .i1⟩
  | .hbm, ⟨31, _⟩ => ⟨S1x2, .i32⟩
  | .hbm, ⟨32, _⟩ => ⟨S512x2, .i32⟩
  | .hbm, ⟨33, _⟩ => ⟨S512x2, .i1⟩
  | .hbm, ⟨34, _⟩ => ⟨S512x2, .i1⟩
  | .hbm, ⟨35, _⟩ => ⟨S_, .i1⟩
  | .hbm, ⟨36, _⟩ => ⟨S512, .i1⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512x1, .i32⟩
  | .hbm, ⟨42, _⟩ => ⟨S1, .i32⟩
  | .hbm, ⟨43, _⟩ => ⟨S_, .i32⟩
  | .hbm, ⟨44, _⟩ => ⟨S512x1, .i32⟩
  | .hbm, ⟨45, _⟩ => ⟨S512x1, .i1⟩
  | .hbm, ⟨46, _⟩ => ⟨S1x1, .i32⟩
  | .hbm, ⟨47, _⟩ => ⟨S512x1, .i32⟩
  | .hbm, ⟨48, _⟩ => ⟨S512x1, .i1⟩
  | .hbm, ⟨49, _⟩ => ⟨S512x1, .i1⟩
  | .hbm, ⟨50, _⟩ => ⟨S_, .i1⟩
  | .hbm, ⟨51, _⟩ => ⟨S512, .i1⟩
  | .hbm, ⟨52, _⟩ => ⟨S512x256x512, .f32⟩
  | .hbm, ⟨53, _⟩ => ⟨S512x256x512, .i1⟩
  | .hbm, ⟨54, _⟩ => ⟨S_, .f32⟩
  | .hbm, ⟨55, _⟩ => ⟨S512x256x512, .f32⟩
  | .hbm, ⟨56, _⟩ => ⟨S512x256x512, .f32⟩
  | .hbm, ⟨57, _⟩ => ⟨S512x1, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Proof.Peers.lean ====
/-
# The exchange: who sends what to whom

Four devices each hold four blocks of partial sums. Every device `c` sends the block numbered `peer c k` to device
`peer c k` (`k = 0, 1, 2`), where it lands in slot `2 - k` of that device's three landing slots. This file states the
arithmetic of the ring of four, names the slots, the blocks and the semaphores, and gives the contents each of them
holds at each stage of the kernel. Nothing here depends on how the kernel runs; everything is over any float values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

set_option maxRecDepth 16384

noncomputable section

namespace Cert.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring of four -/

set_option backward.proofsInPublic true in
/-- The device `k + 1` places after `c`. -/
def peer (c : Dev nD) (k : Fin 3) : Dev nD := ⟨(c.val + k.val + 1) % 4, Nat.mod_lt _ (by decide)⟩

/-- The number of the opposite way round: `2 - k`. -/
abbrev back (k : Fin 3) : Fin 3 := Fin.rev k

/-- Going on by `k` and then by its opposite comes back. -/
theorem peer_back (c : Dev nD) (k : Fin 3) : peer (peer c k) (back k) = c := by revert c k; decide
theorem peer_back' (c : Dev nD) (k : Fin 3) : peer (peer c (back k)) k = c := by revert c k; decide
/-- Two different steps reach two different devices. -/
theorem peer_inj (c : Dev nD) {k k' : Fin 3} (h : peer c k = peer c k') : k = k' := by revert c k k'; decide
theorem peer_eq_iff (c d : Dev nD) (k : Fin 3) : peer d k = c ↔ d = peer c (back k) := by revert c d k; decide

/-- One step as a permutation of the devices. -/
def stepPerm (k : Fin 3) : Dev nD ≃ Dev nD :=
  ⟨fun c => peer c k, fun c => peer c (back k), fun c => peer_back c k, fun c => peer_back' c k⟩

/-- The devices the kernel's three signals and three transfers address. -/
theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 0 := Fin.ext (k0_dev4_eq c)
theorem dev5_eq (c : Dev nD) : (⟨k0_dev5 c, k0_dev5_lt c⟩ : Dev nD) = peer c 1 := Fin.ext (k0_dev5_eq c)
theorem dev6_eq (c : Dev nD) : (⟨k0_dev6 c, k0_dev6_lt c⟩ : Dev nD) = peer c 2 := Fin.ext (k0_dev6_eq c)

/-! ## Buffers and semaphores -/

abbrev xM : Memref sig .tc .vmem S512x256 .bf16 := Memref.whole cc0_stg0_0
abbrev rtM : Memref sig .tc .vmem S256x16 .bf16 := Memref.whole cc0_stg1_0
abbrev idM : Memref sig .tc .vmem S512x1 .i32 := Memref.whole cc0_stg2_0
abbrev exM : Memref sig .tc .vmem S4x256x512 .bf16 := Memref.whole cc0_stg3_0
abbrev shM : Memref sig .tc .vmem S256x512 .bf16 := Memref.whole cc0_stg4_0
abbrev outM : Memref sig .tc .vmem S128x512 .f32 := Memref.whole cc0_stg5_0
abbrev accM : Memref sig .tc .vmem S512x512 .f32 := Memref.whole cc0_scratch0
abbrev pbM : Memref sig .tc .vmem S4x128x512 .bf16 := Memref.whole cc0_scratch1
abbrev inM : Memref sig .tc .vmem S3x128x512 .bf16 := Memref.whole cc0_scratch2

theorem slot_inb : ∀ (r : Fin 3) (a : Fin 3), (![r.val, 0, 0] : Fin 3 → ℕ) a + S1x128x512.size a ≤ S3x128x512.size a := by decide

/-- Landing slot `r`, as a 128 × 512 array. -/
abbrev slotM (r : Fin 3) : Memref sig .tc .vmem S128x512 .bf16 :=
  ((inM).slice (Rect.unit (s := S3x128x512) ![r.val, 0, 0] S1x128x512.size (slot_inb r)) (fun _ => rfl)).squeeze S128x512 squeezes_S1x128x512_S128x512

/-- The block of partial sums device `c` sends at step `k`, as a 128 × 512 array. -/
abbrev sendM (c : Dev nD) (k : Fin 3) : Memref sig .tc .vmem S128x512 .bf16 :=
  ((pbM).slice (Rect.unit (s := S4x128x512) (k0_off1 c (BitVec.ofNat 32 (1 + k.val))) S1x128x512.size (k0_off1_inb c k)) (fun _ => rfl)).squeeze S128x512 squeezes_S1x128x512_S128x512

theorem one_inb : ∀ (k : Fin 3) (a : Fin 1), (![k.val] : Fin 1 → ℕ) a + S1.size a ≤ S3.size a := by decide

abbrev barS : Sem sig := (SemArray.scalar (sig.barrier 0 rfl) : Sems sig S_).sem
/-- The semaphore counting step `k`'s outgoing bytes. -/
abbrev sndS (k : Fin 3) : DmaSem sig :=
  ((cc0_scratch3.slice (Rect.unit (s := S3) ![k.val] S1.size (one_inb k))).squeeze S_ squeezes_S1_S_ : DmaSems sig S_).sem
/-- The semaphore counting slot `r`'s incoming bytes. -/
abbrev rcvS (r : Fin 3) : DmaSem sig :=
  ((cc0_scratch4.slice (Rect.unit (s := S3) ![r.val] S1.size (one_inb r))).squeeze S_ squeezes_S1_S_ : DmaSems sig S_).sem

theorem sndS_val (k : Fin 3) : (sndS k).val = 6 + k.val := by revert k; decide
theorem rcvS_val (r : Fin 3) : (rcvS r).val = 9 + r.val := by revert r; decide

/-- The bytes of one block, as the semaphores count them. -/
abbrev N : ℕ := (slotM 0).view.dmaCredit
theorem N_pos : 0 < N := View.dmaCredit_pos _ (by decide)

/-! ## The slots partition the landing buffer; the three outgoing blocks are disjoint -/

abbrev slotSet (r : Fin 3) : Finset S3x128x512.Idx := (slotM r).view.set
abbrev sendSet (c : Dev nD) (k : Fin 3) : Finset S4x128x512.Idx := (sendM c k).view.set

theorem slotSet_eq (r : Fin 3) : slotSet r = (Rect.unit (s := S3x128x512) ![r.val, 0, 0] S1x128x512.size (slot_inb r)).set :=
  (View.set_reshape _ _).trans (View.set_slice_whole _ _)
theorem sendSet_eq (c : Dev nD) (k : Fin 3) :
    sendSet c k = (Rect.unit (s := S4x128x512) (k0_off1 c (BitVec.ofNat 32 (1 + k.val))) S1x128x512.size (k0_off1_inb c k)).set :=
  (View.set_reshape _ _).trans (View.set_slice_whole _ _)

theorem off1_eq (c : Dev nD) (k : Fin 3) : k0_off1 c (BitVec.ofNat 32 (1 + k.val)) = ![(peer c k).val, 0, 0] := k0_off1_eq c k

theorem mem_slotSet (r : Fin 3) (i : S3x128x512.Idx) : i ∈ slotSet r ↔ (i 0).val = r.val := by
  rw [slotSet_eq, Rect.mem_set_unit]
  constructor
  · intro h
    have h0 := h 0
    change r.val ≤ (i 0).val ∧ (i 0).val < r.val + 1 at h0
    omega
  · intro h a
    match a with
    | 0 => change r.val ≤ (i 0).val ∧ (i 0).val < r.val + 1; omega
    | 1 => change 0 ≤ (i 1).val ∧ (i 1).val < 0 + 128; have := (i 1).isLt; change (i 1).val < 128 at this; omega
    | 2 => change 0 ≤ (i 2).val ∧ (i 2).val < 0 + 512; have := (i 2).isLt; change (i 2).val < 512 at this; omega

theorem mem_sendSet_first (c : Dev nD) (k : Fin 3) (i : S4x128x512.Idx) (h : i ∈ sendSet c k) : (i 0).val = (peer c k).val := by
  rw [sendSet_eq, Rect.mem_set_unit] at h
  have h0 := h 0
  rw [off1_eq] at h0
  change (peer c k).val ≤ (i 0).val ∧ (i 0).val < (peer c k).val + 1 at h0
  omega

theorem slots_disjoint {r r' : Fin 3} (h : r ≠ r') : Disjoint (slotSet r) (slotSet r') :=
  Finset.disjoint_left.mpr fun i hi hi' => h (Fin.ext ((mem_slotSet r i).mp hi ▸ (mem_slotSet r' i).mp hi'))

theorem slots_cover : (Finset.univ : Finset S3x128x512.Idx) = (Finset.univ : Finset (Fin 3)).biUnion slotSet := by
  ext i
  simp only [Finset.mem_univ, Finset.mem_biUnion, true_and, true_iff]
  exact ⟨i 0, (mem_slotSet (i 0) i).mpr rfl⟩

theorem sends_disjoint (c : Dev nD) {k k' : Fin 3} (h : k ≠ k') : Disjoint (sendSet c k) (sendSet c k') :=
  Finset.disjoint_left.mpr fun i hi hi' =>
    h (peer_inj c (Fin.ext ((mem_sendSet_first c k i hi).symm.trans (mem_sendSet_first c k' i hi'))))

/-- Entry `(x, y)` of slot `r` is entry `(r, x, y)` of the landing buffer. -/
theorem slot_emb (r : Fin 3) (x : Fin 128) (y : Fin 512) : (slotM r).view.emb (ix2 x y) = (ix3 r x y : S3x128x512.Idx) := by
  have h := reshapeEquiv_ix2_1ab (a := 128) (b := 512) squeezes_S1x128x512_S128x512.numel_eq x y
  have : (slotM r).view.emb (ix2 x y)
      = (Rect.unit (s := S3x128x512) ![r.val, 0, 0] S1x128x512.size (slot_inb r)).emb (Shape.reshapeEquiv squeezes_S1x128x512_S128x512.numel_eq (ix2 x y)) := rfl
  rw [this, h]
  funext a; apply Fin.ext
  match a with
  | 0 => change r.val + 1 * 0 = r.val; omega
  | 1 => change 0 + 1 * x.val = x.val; omega
  | 2 => change 0 + 1 * y.val = y.val; omega

/-- Entry `(x, y)` of the block sent at step `k` is entry `(peer c k, x, y)` of the four blocks. -/
theorem send_emb (c : Dev nD) (k : Fin 3) (x : Fin 128) (y : Fin 512) :
    (sendM c k).view.emb (ix2 x y) = (ix3 (peer c k) x y : S4x128x512.Idx) := by
  have h := reshapeEquiv_ix2_1ab (a := 128) (b := 512) squeezes_S1x128x512_S128x512.numel_eq x y
  have : (sendM c k).view.emb (ix2 x y)
      = (Rect.unit (s := S4x128x512) (k0_off1 c (BitVec.ofNat 32 (1 + k.val))) S1x128x512.size (k0_off1_inb c k)).emb
          (Shape.reshapeEquiv squeezes_S1x128x512_S128x512.numel_eq (ix2 x y)) := rfl
  rw [this, h]
  have hoff := off1_eq c k
  funext a; apply Fin.ext
  match a with
  | 0 => change k0_off1 c (BitVec.ofNat 32 (1 + k.val)) 0 + 1 * 0 = _; rw [hoff]; change (peer c k).val + 1 * 0 = (peer c k).val; omega
  | 1 => change k0_off1 c (BitVec.ofNat 32 (1 + k.val)) 1 + 1 * x.val = _; rw [hoff]; change 0 + 1 * x.val = x.val; omega
  | 2 => change k0_off1 c (BitVec.ofNat 32 (1 + k.val)) 2 + 1 * y.val = _; rw [hoff]; change 0 + 1 * y.val = y.val; omega

end Cert.Exchange

end
-- ==== Proof.Contents.lean ====
/-
# What each buffer holds

The contents of every buffer as the kernel runs, as functions of the launch memory: the six operand blocks as staged,
the partial sums of a device over its four experts, the same cut into four 16-bit blocks, the three blocks a device
receives, and its finished rows. All over any float values.
-/
module

public import proofs.«01_k».proof.Proof.Peers

@[expose] public section

set_option maxRecDepth 16384

noncomputable section

namespace Cert.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-! ## The operands as staged -/

/-- Tokens. -/
def xIn (c : Dev nD) : (cc0_stg0_0 : Ref sig .tc).ty.Contents (Elt F) :=
  (win0_0.blk (0 : Fin 1)).view.read (Elt F) (m ((c : Thread nD τ).loc main_arg0))
/-- Router weights. -/
def rtIn (c : Dev nD) : (cc0_stg1_0 : Ref sig .tc).ty.Contents (Elt F) :=
  (win0_1.blk (0 : Fin 1)).view.read (Elt F) (m ((c : Thread nD τ).loc main_arg1))
/-- Each token's expert. -/
def idIn (c : Dev nD) : (cc0_stg2_0 : Ref sig .tc).ty.Contents (Elt F) :=
  (win0_2.blk (0 : Fin 1)).view.read (Elt F) (m ((c : Thread nD τ).loc main_arg2))
/-- The device's four experts. -/
def exIn (c : Dev nD) : (cc0_stg3_0 : Ref sig .tc).ty.Contents (Elt F) :=
  (win0_3.blk (0 : Fin 1)).view.read (Elt F) (m ((c : Thread nD τ).loc main_arg3))
/-- The shared weights. -/
def shIn (c : Dev nD) : (cc0_stg4_0 : Ref sig .tc).ty.Contents (Elt F) :=
  (win0_4.blk (0 : Fin 1)).view.read (Elt F) (m ((c : Thread nD τ).loc main_arg4))

/-! ## The rectangles the kernel reads and writes -/

theorem expert_inb : ∀ (j : Fin 4) (a : Fin 3), (![j.val, 0, 0] : Fin 3 → ℕ) a + S1x256x512.size a ≤ S4x256x512.size a := by decide
theorem block_inb : ∀ (j : Fin 4) (a : Fin 3), (![j.val, 0, 0] : Fin 3 → ℕ) a + S1x128x512.size a ≤ S4x128x512.size a := by decide
abbrev expertR (j : Fin 4) : Rect S4x256x512 := Rect.unit (s := S4x256x512) ![j.val, 0, 0] S1x256x512.size (expert_inb j)
abbrev blockR (j : Fin 4) : Rect S4x128x512 := Rect.unit (s := S4x128x512) ![j.val, 0, 0] S1x128x512.size (block_inb j)
abbrev slotR (r : Fin 3) : Rect S3x128x512 := Rect.unit (s := S3x128x512) ![r.val, 0, 0] S1x128x512.size (slot_inb r)
abbrev rowsR (c : Dev nD) : Rect S512x512 := Rect.unit (s := S512x512) (k0_off3 c) S128x512.size (k0_off3_inb c)
abbrev tokR (c : Dev nD) : Rect S512x256 := Rect.unit (s := S512x256) (k0_off2 c) S128x256.size (k0_off2_inb c)

/-- Expert `j` of the device, as loaded. -/
def exRow (c : Dev nD) (j : Fin 4) : Vec F S1x256x512 .bf16 := exM.view.readAt (Elt F) (expertR j).toLoadRect (exIn m c)

/-! ## The partial sums, named as the kernel computes them -/

/-- The device's number, and four times it: the number of its first expert. -/
abbrev wrd (c : Dev nD) : BitVec 32 := Scalar.remsi (Scalar.divsi (Dev.word c) 1#32) 4#32
abbrev wrd4 (c : Dev nD) : BitVec 32 := Scalar.muli (wrd c) 4#32

def vX (c : Dev nD) := k0_pay2 (F := F) (xIn m c)
def vNum (c : Dev nD) := k0_pay3 (F := F) (xIn m c) (rtIn m c)
def vDen (c : Dev nD) := k0_pay4 (F := F) (xIn m c) (rtIn m c)
def vId (c : Dev nD) := k0_pay5 (F := F) (idIn m c)
def vW (c : Dev nD) := k0_pay6 (F := F) (vNum m c) (vDen m c) (idIn m c)
def vTwo (c : Dev nD) := k0_pay7 (F := F) (wrd c) (vX m c) (vNum m c) (vDen m c) (idIn m c) (exRow m c 0) (exRow m c 1)
def vMask (c : Dev nD) := k0_pay8 (F := F) (wrd c) (idIn m c)

/-- All 512 rows of the device's partial sums. -/
def vAcc (c : Dev nD) : Vec F S512x512 .f32 :=
  k0_pay10 (vX m c) (vId m c) (vW m c) (wrd4 c) (vTwo m c) (vMask m c) (exRow m c 2) (exRow m c 3)
/-- The same in the 16-bit type. -/
def vAcc16 (c : Dev nD) : FVec F S512x512 .bf16 :=
  k0_pay11 (vX m c) (vId m c) (vW m c) (wrd4 c) (vTwo m c) (vMask m c) (exRow m c 2) (exRow m c 3)
def vThird (c : Dev nD) : FVec F S128x512 .bf16 :=
  k0_pay14 (vX m c) (vId m c) (vW m c) (wrd4 c) (vTwo m c) (vMask m c) (exRow m c 2) (exRow m c 3)

/-- Block `j` of the 16-bit partial sums, as stored. -/
def vBlock (c : Dev nD) (j : Fin 4) : FVec F S1x128x512 .bf16 := match j with
  | 0 => k0_pay12 (vX m c) (vId m c) (vW m c) (wrd4 c) (vTwo m c) (vMask m c) (exRow m c 2) (exRow m c 3)
  | 1 => k0_pay13 (vX m c) (vId m c) (vW m c) (wrd4 c) (vTwo m c) (vMask m c) (exRow m c 2) (exRow m c 3)
  | 2 => k0_pay15 (vThird m c)
  | 3 => k0_pay16 (vAcc16 m c)

/-- The four blocks together: the contents of the outgoing buffer. -/
def outBuf (c : Dev nD) : (cc0_scratch1 : Ref sig .tc).ty.Contents (Elt F) :=
  fun (i : S4x128x512.Idx) => vBlock m c (i 0) (ix3 (0 : Fin 1) (i 1) (i 2))

/-- The contents of the landing buffer once all three blocks are in: slot `r` holds block `c` of device `peer c r`. -/
def inBuf (c : Dev nD) : (cc0_scratch2 : Ref sig .tc).ty.Contents (Elt F) :=
  fun (i : S3x128x512.Idx) => outBuf m (peer c (i 0)) (ix3 c (i 1) (i 2) : S4x128x512.Idx)

/-- Slot `r` as loaded. -/
def got (c : Dev nD) (r : Fin 3) : Vec F S1x128x512 .bf16 := inM.view.readAt (Elt F) (slotR r).toLoadRect (inBuf m c)
/-- The device's own rows of its own partial sums. -/
def mine (c : Dev nD) : Vec F S128x512 .f32 := accM.view.readAt (Elt F) (rowsR c).toLoadRect (vAcc m c)
/-- The shared product of the device's rows. -/
def vShared (c : Dev nD) : FVec F S128x512 .f32 := k0_pay17 (xM.view.readAt (Elt F) (tokR c).toLoadRect (xIn m c)) (shIn m c)
def vFour (c : Dev nD) : FVec F S128x512 .f32 := k0_pay18 (vShared m c) (mine m c) (got m c 0) (got m c 1)
def vLast (c : Dev nD) : FVec F S128x512 .f32 := k0_pay19 (got m c 2)

/-- The finished rows of device `c`. -/
def outAt (c : Dev nD) : (cc0_stg5_0 : Ref sig .tc).ty.Contents (Elt F) := k0_pay1 (vFour m c) (vLast m c)

/-! ## Stores that replace a whole buffer, and the four stores that fill the outgoing one -/

theorem write_blocks (c : Dev nD) (f : (cc0_scratch1 : Ref sig .tc).ty.Contents (Elt F)) :
    (pbM.access (blockR 3) : View sig .tc _ _ _).write (Elt F)
      ((pbM.access (blockR 2) : View sig .tc _ _ _).write (Elt F)
        ((pbM.access (blockR 1) : View sig .tc _ _ _).write (Elt F)
          ((pbM.access (blockR 0) : View sig .tc _ _ _).write (Elt F) f (vBlock m c 0) Finset.univ)
          (vBlock m c 1) Finset.univ) (vBlock m c 2) Finset.univ) (vBlock m c 3) Finset.univ = outBuf m c := by
  have hemb : ∀ (j : Fin 4) (x : Fin 128) (y : Fin 512),
      (pbM.access (blockR j) : View sig .tc _ _ _).emb (ix3 (0 : Fin 1) x y : S1x128x512.Idx) = (ix3 j x y : S4x128x512.Idx) := by
    intro j x y
    have : (pbM.access (blockR j) : View sig .tc _ _ _).emb (ix3 (0 : Fin 1) x y : S1x128x512.Idx) = (blockR j).emb (ix3 (0 : Fin 1) x y) := rfl
    rw [this]; funext a; apply Fin.ext
    match a with
    | 0 => change j.val + 1 * 0 = j.val; omega
    | 1 => change 0 + 1 * x.val = x.val; omega
    | 2 => change 0 + 1 * y.val = y.val; omega
  have hit : ∀ (j : Fin 4) (g : (cc0_scratch1 : Ref sig .tc).ty.Contents (Elt F)) (w : Vec F S1x128x512 .bf16) (x : Fin 128) (y : Fin 512),
      (pbM.access (blockR j) : View sig .tc _ _ _).write (Elt F) g w Finset.univ (ix3 j x y : S4x128x512.Idx) = w (ix3 (0 : Fin 1) x y) := by
    intro j g w x y
    rw [← hemb j x y]
    exact View.write_emb_of_mem _ _ (Finset.mem_univ _)
  have miss : ∀ (j j' : Fin 4) (_ : j ≠ j') (g : (cc0_scratch1 : Ref sig .tc).ty.Contents (Elt F)) (w : Vec F S1x128x512 .bf16) (x : Fin 128) (y : Fin 512),
      (pbM.access (blockR j') : View sig .tc _ _ _).write (Elt F) g w Finset.univ (ix3 j x y : S4x128x512.Idx) = g (ix3 j x y : S4x128x512.Idx) := by
    intro j j' hj g w x y
    refine View.write_of_not_mem _ _ _ fun hm => hj ?_
    obtain ⟨i, -, hi⟩ := Finset.mem_map.mp hm
    obtain ⟨u, p, q, rfl⟩ : ∃ (u : Fin 1) (p : Fin 128) (q : Fin 512), i = (ix3 u p q : S1x128x512.Idx) := ⟨i 0, i 1, i 2, eq_ix3 i⟩
    rw [Subsingleton.elim u 0, hemb j' p q] at hi
    exact (congrFun hi (0 : Fin 3)).symm
  funext i
  obtain ⟨j, x, y, rfl⟩ : ∃ (j : Fin 4) (x : Fin 128) (y : Fin 512), i = (ix3 j x y : S4x128x512.Idx) := ⟨i 0, i 1, i 2, eq_ix3 i⟩
  show _ = vBlock m c j (ix3 (0 : Fin 1) x y)
  match j with
  | 3 => exact hit 3 _ _ x y
  | 2 => exact (miss 2 3 (by decide) _ _ x y).trans (hit 2 _ _ x y)
  | 1 => exact (miss 1 3 (by decide) _ _ x y).trans ((miss 1 2 (by decide) _ _ x y).trans (hit 1 _ _ x y))
  | 0 => exact (miss 0 3 (by decide) _ _ x y).trans ((miss 0 2 (by decide) _ _ x y).trans ((miss 0 1 (by decide) _ _ x y).trans (hit 0 _ _ x y)))

/-- A transferred block lands as the receiver's buffer has it: writing the block `c` sends at step `k` over slot `back k`
    of `peer c k` leaves that slot as `inBuf` says. -/
theorem landed (c : Dev nD) (k : Fin 3) (f : (cc0_scratch2 : Ref sig .tc).ty.Contents (Elt F)) (i : S3x128x512.Idx) (hi : i ∈ slotSet (back k)) :
    (slotM (back k)).view.write (Elt F) f ((sendM c k).view.read (Elt F) (outBuf m c)) Finset.univ i = inBuf m (peer c k) i := by
  obtain ⟨r, x, y, rfl⟩ : ∃ (r : Fin 3) (x : Fin 128) (y : Fin 512), i = (ix3 r x y : S3x128x512.Idx) := ⟨i 0, i 1, i 2, eq_ix3 i⟩
  obtain rfl : r = back k := Fin.ext ((mem_slotSet _ _).mp hi)
  have h1 : (slotM (back k)).view.write (Elt F) f ((sendM c k).view.read (Elt F) (outBuf m c)) Finset.univ ((slotM (back k)).view.emb (ix2 x y))
      = (sendM c k).view.read (Elt F) (outBuf m c) (ix2 x y) := View.write_emb_of_mem _ _ (Finset.mem_univ _)
  rw [slot_emb] at h1
  refine h1.trans ?_
  have h2 : (sendM c k).view.read (Elt F) (outBuf m c) (ix2 x y) = outBuf m c ((sendM c k).view.emb (ix2 x y)) := rfl
  rw [h2, send_emb]
  show outBuf m c (ix3 (peer c k) x y : S4x128x512.Idx) = outBuf m (peer (peer c k) (back k)) (ix3 (peer c k) x y : S4x128x512.Idx)
  rw [peer_back]

end Cert.Exchange

end
-- ==== Proof.Schedule.lean ====
/-
# The protocol of the exchange

Each device owns seven semaphores: its barrier, three that count outgoing bytes, three that count incoming bytes. In the
one round of the protocol

* a barrier is signalled once by each of the three other devices. Device `peer c j`'s signal to `c` hands over the slot
  into which `c` will then send its block number `j`;
* an outgoing semaphore is credited with one block when the block has left; the block comes back with it;
* an incoming semaphore is credited with one block when the block has landed; the filled slot comes with it.

This file states that as a schedule of duties, reads the schedule off cell by cell, and orders the semaphores by level so
that every wait is for a semaphore below those the waiting device still owes: staging and outgoing 0, barrier 1,
incoming 2.
-/
module

public import proofs.«01_k».proof.Proof.Contents

@[expose] public section

set_option maxRecDepth 16384

noncomputable section

namespace Cert.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the pipeline's and the exchange's, side by side -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## The cells -/

abbrev barC (c : Dev nD) : GSem nD τ sig := ((c : Thread nD τ), .reg barS)
abbrev sndC (c : Dev nD) (k : Fin 3) : GSem nD τ sig := ((c : Thread nD τ), .dma (sndS k))
abbrev rcvC (c : Dev nD) (r : Fin 3) : GSem nD τ sig := ((c : Thread nD τ), .dma (rcvS r))

/-- A device's seven semaphores in order. -/
abbrev cellSem : Fin 7 → SemLoc sig := fun
  | 0 => .reg barS
  | 1 => .dma (sndS 0) | 2 => .dma (sndS 1) | 3 => .dma (sndS 2)
  | 4 => .dma (rcvS 0) | 5 => .dma (rcvS 1) | 6 => .dma (rcvS 2)
/-- Of them, the six that belong to the kernel's launch. -/
abbrev ownSem : Fin 6 → SemLoc sig := fun
  | 0 => .dma (sndS 0) | 1 => .dma (sndS 1) | 2 => .dma (sndS 2)
  | 3 => .dma (rcvS 0) | 4 => .dma (rcvS 1) | 5 => .dma (rcvS 2)
abbrev cellAt (ci : Dev nD × Fin 7) : GSem nD τ sig := ((ci.1 : Thread nD τ), cellSem ci.2)

abbrev sndI (k : Fin 3) : Fin 7 := ⟨1 + k.val, by omega⟩
abbrev rcvI (r : Fin 3) : Fin 7 := ⟨4 + r.val, by omega⟩
theorem cellAt_bar (c : Dev nD) : cellAt (c, 0) = barC c := rfl
theorem cellAt_snd (c : Dev nD) (k : Fin 3) : cellAt (c, sndI k) = sndC c k := by fin_cases k <;> rfl
theorem cellAt_rcv (c : Dev nD) (r : Fin 3) : cellAt (c, rcvI r) = rcvC c r := by fin_cases r <;> rfl

/-! ## What is handed over -/

/-- Slot `r` of device `c`'s landing buffer, holding what `f` says there. -/
def slotPts (c : Dev nD) (r : Fin 3) (f : Buf (Elt F) ((slotM r).view.loc (c : Thread nD τ))) : sProp 𝕄 :=
  (slotM r).view.loc (c : Thread nD τ) ↦[(slotM r).view.set]{fullShare} f
/-- The block device `c` sends at step `k`. -/
def sendPts (c : Dev nD) (k : Fin 3) : sProp 𝕄 :=
  (sendM c k).view.loc (c : Thread nD τ) ↦[(sendM c k).view.set]{fullShare} (outBuf m c)

instance slotPts_storable (c : Dev nD) (r : Fin 3) (f) : BI.Storable (upEmb : UEmb _ 𝕄) (slotPts (F := F) c r f) := by
  unfold slotPts; infer_instance
instance sendPts_storable (c : Dev nD) (k : Fin 3) : BI.Storable (upEmb : UEmb _ 𝕄) (sendPts (F := F) m c k) := by
  unfold sendPts; infer_instance

def barPay (c : Dev nD) (j : Fin 3) : sProp 𝕄 := iprop(∃ f, slotPts (peer c j) (back j) f)
def rcvPay (c : Dev nD) (r : Fin 3) : sProp 𝕄 := slotPts c r (inBuf m c)
def sndPay (c : Dev nD) (k : Fin 3) : sProp 𝕄 := sendPts m c k

instance barPay_storable (c : Dev nD) (j : Fin 3) : BI.Storable (upEmb : UEmb _ 𝕄) (barPay (F := F) c j) := by unfold barPay; infer_instance
instance rcvPay_storable (c : Dev nD) (r : Fin 3) : BI.Storable (upEmb : UEmb _ 𝕄) (rcvPay (F := F) m c r) := by unfold rcvPay; infer_instance
instance sndPay_storable (c : Dev nD) (k : Fin 3) : BI.Storable (upEmb : UEmb _ 𝕄) (sndPay (F := F) m c k) := by unfold sndPay; infer_instance

/-! ## The schedule -/

/-- A number below three, from any number. -/
abbrev third (n : ℕ) : Fin 3 := ⟨n % 3, Nat.mod_lt _ (by decide)⟩

def dutiesOf : SemLoc sig → Finset (Fin 3)
  | .reg _ => Finset.univ
  | .dma _ => {0}
def amountOf : SemLoc sig → ℕ
  | .reg _ => 1
  | .dma _ => N
def payOf (c : Dev nD) : SemLoc sig → Fin 3 → sProp 𝕄
  | .reg _, j => barPay c j
  | .dma q, _ => if 9 ≤ q.val then rcvPay m c (third q.val) else sndPay m c (third q.val)
def levelOf : SemLoc sig → ℕ
  | .reg _ => 1
  | .dma q => if 9 ≤ q.val then 2 else 0

/-- The one round. -/
def plan : Rounds.Schedule (GSem nD τ sig) (Fin 3) 𝕄 where
  duties g r := if r = 0 then dutiesOf g.2 else ∅
  unitless _ := False
  amount g _ _ := amountOf g.2
  payload g _ d := payOf m g.1.1 g.2 d
  amount_pos g _ _ _ := by
    show 0 < amountOf g.2
    cases g.2 with
    | reg s => exact Nat.one_pos
    | dma q => exact N_pos

instance plan_payload_storable (g : GSem nD τ sig) (r : ℕ) (d : Fin 3) : BI.Storable (upEmb : UEmb _ 𝕄) ((plan (F := F) m).payload g r d) := by
  show BI.Storable upEmb (payOf m g.1.1 g.2 d)
  cases g.2 with
  | reg s => unfold payOf; infer_instance
  | dma q => unfold payOf; dsimp only; split <;> infer_instance

section Tables
variable (c : Dev nD)

theorem duties_bar : (plan (F := F) m).duties (barC c) 0 = Finset.univ := rfl
theorem duties_snd (k : Fin 3) : (plan (F := F) m).duties (sndC c k) 0 = {0} := rfl
theorem duties_rcv (r : Fin 3) : (plan (F := F) m).duties (rcvC c r) 0 = {0} := rfl
theorem duties_later (g : GSem nD τ sig) : ∀ r, 1 ≤ r → (plan (F := F) m).duties g r = ∅ :=
  fun r hr => if_neg (by omega)

theorem amount_bar (d : Fin 3) : (plan (F := F) m).amount (barC c) 0 d = 1 := rfl
theorem amount_snd (k d : Fin 3) : (plan (F := F) m).amount (sndC c k) 0 d = N := rfl
theorem amount_rcv (r d : Fin 3) : (plan (F := F) m).amount (rcvC c r) 0 d = N := rfl

theorem expect_bar : (plan (F := F) m).expect (barC c) 0 = 3 := by
  unfold Schedule.expect Schedule.amountOf
  rw [duties_bar, Finset.sum_congr rfl fun d _ => amount_bar m c d]; decide
theorem expect_snd (k : Fin 3) : (plan (F := F) m).expect (sndC c k) 0 = N := by
  unfold Schedule.expect Schedule.amountOf; rw [duties_snd, Finset.sum_singleton, amount_snd]
theorem expect_rcv (r : Fin 3) : (plan (F := F) m).expect (rcvC c r) 0 = N := by
  unfold Schedule.expect Schedule.amountOf; rw [duties_rcv, Finset.sum_singleton, amount_rcv]

theorem payload_bar (j : Fin 3) : (plan (F := F) m).payload (barC c) 0 j = barPay c j := rfl
theorem payload_snd (k d : Fin 3) : (plan (F := F) m).payload (sndC c k) 0 d = sndPay m c k := by
  show (if 9 ≤ (sndS k).val then rcvPay m c (third (sndS k).val) else sndPay m c (third (sndS k).val)) = _
  rw [sndS_val, if_neg (by omega)]
  exact congrArg (sndPay m c) (Fin.ext (by show (6 + k.val) % 3 = k.val; omega))
theorem payload_rcv (r d : Fin 3) : (plan (F := F) m).payload (rcvC c r) 0 d = rcvPay m c r := by
  show (if 9 ≤ (rcvS r).val then rcvPay m c (third (rcvS r).val) else sndPay m c (third (rcvS r).val)) = _
  rw [rcvS_val, if_pos (by omega)]
  exact congrArg (rcvPay m c) (Fin.ext (by show (9 + r.val) % 3 = r.val; omega))

omit [FloatOps F] in
theorem three (Φ : Fin 3 → sProp 𝕄) : bigSep Finset.univ Φ = iprop(Φ 0 ∗ Φ 1 ∗ Φ 2) :=
  bigSep_univ_eq_bigSepL [0, 1, 2] (by decide) (by decide) Φ
omit [FloatOps F] in
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- All that a device's barrier hands it: the three slots it will send into. -/
theorem rest_bar : bigSep ((plan (F := F) m).duties (barC c) 0 \ ∅) (fun d => (plan (F := F) m).payload (barC c) 0 d)
    = iprop(barPay c 0 ∗ barPay c 1 ∗ barPay c 2) := by
  rw [Finset.sdiff_empty, duties_bar, three]; rfl
theorem rest_snd (k : Fin 3) : bigSep ((plan (F := F) m).duties (sndC c k) 0 \ ∅) (fun d => (plan (F := F) m).payload (sndC c k) 0 d) = sndPay m c k := by
  rw [Finset.sdiff_empty, duties_snd, bigSep_singleton, payload_snd]
theorem rest_rcv (r : Fin 3) : bigSep ((plan (F := F) m).duties (rcvC c r) 0 \ ∅) (fun d => (plan (F := F) m).payload (rcvC c r) 0 d) = rcvPay m c r := by
  rw [Finset.sdiff_empty, duties_rcv, bigSep_singleton, payload_rcv]

end Tables

/-! ## Dues and levels -/

/-- What device `c` owes for its block `k`, and for its signal `k`. -/
abbrev dueR (c : Dev nD) (k : Fin 3) : CellTallies nD τ sig Unit := tallyAt (rcvC (peer c k) (back k)) () N
abbrev dueB (c : Dev nD) (k : Fin 3) : CellTallies nD τ sig Unit := tallyAt (barC (peer c k)) () 1
/-- Owed once the signals are out; owed at the start. The first to be paid is the last summand. -/
def owedR (c : Dev nD) : CellTallies nD τ sig Unit := dueR c 2 + dueR c 1 + dueR c 0
def owed₀ (c : Dev nD) : CellTallies nD τ sig Unit := owedR c + dueB c 2 + dueB c 1 + dueB c 0

def L (g : GSem nD τ sig) : Finset Unit := if g.1.2 = .tc then {()} else ∅
def lv (g : GSem nD τ sig) (_ : Unit) : ℕ := levelOf g.2

theorem L_off (g : GSem nD τ sig) (h : g.1.2 ≠ .tc) : L g = ∅ := if_neg h
theorem L_on (c : Dev nD) (sm : SemLoc sig) : L ((c : Thread nD τ), sm) = {()} := if_pos rfl

theorem level_rcv (r : Fin 3) : levelOf (.dma (rcvS r)) = 2 := by
  show (if 9 ≤ (rcvS r).val then 2 else 0) = 2
  rw [rcvS_val, if_pos (by omega)]
theorem level_snd (k : Fin 3) : levelOf (.dma (sndS k)) = 0 := by
  show (if 9 ≤ (sndS k).val then 2 else 0) = 0
  rw [sndS_val, if_neg (by omega)]

theorem tallyAt_pos_eq {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem owedR_pos {c : Dev nD} {g : GSem nD τ sig} {u : Unit} (h : 0 < owedR c g u) : ∃ k, g = rcvC (peer c k) (back k) := by
  unfold owedR at h
  rw [Pi.add_apply, Finsupp.add_apply, Pi.add_apply, Finsupp.add_apply] at h
  by_cases h2 : 0 < dueR c 2 g u
  · exact ⟨2, tallyAt_pos_eq h2⟩
  by_cases h1 : 0 < dueR c 1 g u
  · exact ⟨1, tallyAt_pos_eq h1⟩
  by_cases h0 : 0 < dueR c 0 g u
  · exact ⟨0, tallyAt_pos_eq h0⟩
  omega

theorem owed₀_pos {c : Dev nD} {g : GSem nD τ sig} {u : Unit} (h : 0 < owed₀ c g u) :
    (∃ k, g = rcvC (peer c k) (back k)) ∨ ∃ k, g = barC (peer c k) := by
  unfold owed₀ at h
  rw [Pi.add_apply, Finsupp.add_apply, Pi.add_apply, Finsupp.add_apply, Pi.add_apply, Finsupp.add_apply] at h
  by_cases hR : 0 < owedR c g u
  · exact .inl (owedR_pos hR)
  by_cases h2 : 0 < dueB c 2 g u
  · exact .inr ⟨2, tallyAt_pos_eq h2⟩
  by_cases h1 : 0 < dueB c 1 g u
  · exact .inr ⟨1, tallyAt_pos_eq h1⟩
  by_cases h0 : 0 < dueB c 0 g u
  · exact .inr ⟨0, tallyAt_pos_eq h0⟩
  omega

omit [FloatOps F] in
/-- A staging wait is below everything owed. -/
theorem mayWait_stage (c : Dev nD) (q : DmaSem sig) (hq : q.val < 9) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_on]; exact Finset.mem_singleton_self _)
      (fun g u hg => by rcases owed₀_pos hg with ⟨k, rfl⟩ | ⟨k, rfl⟩ <;> exact Finset.mem_singleton_self _)
      (fun p hp => by rw [Finset.mem_singleton.mp hp]; show (if 9 ≤ q.val then 2 else 0) ≤ 0; rw [if_neg (by omega)])
      (fun g u hg => by
        rcases owed₀_pos hg with ⟨k, rfl⟩ | ⟨k, rfl⟩
        · show 0 < levelOf (.dma (rcvS (back k))); rw [level_rcv]; decide
        · exact Nat.one_pos)
  · rw [MayWait_zero]; iintro -; iempintro

omit [FloatOps F] in
/-- At its barrier a device owes only blocks, whose semaphores lie above. -/
theorem mayWait_bar (c : Dev nD) : (levAts L lv : sProp 𝕄) ⊢ MayWait (c : Thread nD τ) (.reg barS) () (owedR c) :=
  MayOwe.of_cut (L := L) (lev := lv) 1 (fun p hp => by rw [Finset.mem_singleton.mp hp, L_on]; exact Finset.mem_singleton_self _)
    (fun g u hg => by obtain ⟨k, rfl⟩ := owedR_pos hg; exact Finset.mem_singleton_self _)
    (fun p hp => by rw [Finset.mem_singleton.mp hp]; exact Nat.le_refl 1)
    (fun g u hg => by obtain ⟨k, rfl⟩ := owedR_pos hg; show 1 < levelOf (.dma (rcvS (back k))); rw [level_rcv]; decide)

end Cert.Exchange

end
-- ==== Proof.Step.lean ====
/-
# The four moves of the exchange

A signal to a device, a transfer to it, the wait for an incoming block and the wait for an outgoing one: each as one
rule about the kernel's operation, uniform in the number of the step. The rules are read off the schedule of
`Schedule.lean`; the parts of the kernel (`Parts.lean`) apply them in program order.
-/
module

public import proofs.«01_k».proof.Proof.Schedule

@[expose] public section

set_option maxRecDepth 16384

noncomputable section

namespace Cert.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device knows: all the cells' invariants, and that each is at round 0 -/

def records (K : Dev nD × Fin 7 → ℕ) : sProp 𝕄 :=
  iprop((bigSep Finset.univ fun ci : Dev nD × Fin 7 => cellInv EX (plan m) (K ci) (cellAt ci))
    ∗ bigSep Finset.univ fun ci : Dev nD × Fin 7 => reached EX (cellAt ci) 0)

instance records_persistent (K : Dev nD × Fin 7 → ℕ) : BI.Persistent (records m K) := by unfold records; infer_instance

theorem known (K : Dev nD × Fin 7 → ℕ) (ci : Dev nD × Fin 7) :
    records m K ⊢ iprop(cellInv EX (plan m) (K ci) (cellAt ci) ∗ reached EX (cellAt ci) 0) := by
  unfold records
  exact BI.sep_mono (bigSep_elim (Finset.mem_univ ci)) (bigSep_elim (Finset.mem_univ ci))
theorem known_bar (K : Dev nD × Fin 7 → ℕ) (c : Dev nD) :
    records m K ⊢ iprop(cellInv EX (plan m) (K (c, 0)) (barC c) ∗ reached EX (barC c) 0) := known m K (c, 0)
theorem known_snd (K : Dev nD × Fin 7 → ℕ) (c : Dev nD) (k : Fin 3) :
    records m K ⊢ iprop(cellInv EX (plan m) (K (c, sndI k)) (sndC c k) ∗ reached EX (sndC c k) 0) := by
  have h := known m K (c, sndI k); rwa [cellAt_snd] at h
theorem known_rcv (K : Dev nD × Fin 7 → ℕ) (c : Dev nD) (r : Fin 3) :
    records m K ⊢ iprop(cellInv EX (plan m) (K (c, rcvI r)) (rcvC c r) ∗ reached EX (rcvC c r) 0) := by
  have h := known m K (c, rcvI r); rwa [cellAt_rcv] at h

section Moves

variable (K : Dev nD × Fin 7 → ℕ)

/-- Signal number `k`: device `c` tells `peer c k` that its slot `k` is free, and gives the slot away. -/
theorem wp_tell (c n : Dev nD) (k : Fin 3) (hn : n = peer c k) (amt : ℕ) (hamt : 1 = amt)
    (O : CellTallies nD τ sig Unit) (W : Waits sig Unit) (f : Buf (Elt F) ((slotM k).view.loc (c : Thread nD τ)))
    {α : Type} {Q : α → sProp 𝕄} {kont : PUnit → Prog (TpuEff nD τ sig (Elt F) Λ₀ .tc) α} :
    iprop(records m K ∗ owes (c : Thread nD τ) (O + dueB c k) W ∗ dutyTok EX (barC (peer c k)) 0 (back k) ∗ slotPts c k f)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc n : Thread nD τ) barS amt) kont) Q) := by
  subst hn hamt
  iintro ⟨#HK, HO, Ht, Hs⟩
  ihave Hk := (known_bar m K (peer c k)) $$ HK
  icases Hk with ⟨#HI, #HR⟩
  iapply (Rounds.wp_signal 𝒱₀ EX (plan m) (c : Thread nD τ) none (dst := (peer c k : Thread nD τ)) (κ := K (peer c k, 0))
      (d := back k) (by rw [duties_bar]; exact Finset.mem_univ _) (amount_bar m (peer c k) (back k)) () O rfl) $$ [HO Ht Hs]
  isplitr; · iexact HI
  isplitl [HO]; · iexact HO
  isplitl [Ht]; · iexact Ht
  isplitl [Hs]
  · rw [payload_bar]; unfold barPay; rw [peer_back]
    iexists f
    have hb : back (back k) = k := Fin.rev_rev k
    rw [hb]; iexact Hs
  iexact HR

/-- Transfer number `k`: block `peer c k` of device `c` sets out for slot `back k` of `peer c k`. -/
theorem wp_ship (c n : Dev nD) (k : Fin 3) (hn : n = peer c k)
    {hsc : (slotM (back k) : Memref sig (Dev.tc n : Thread nD τ).2.kind .vmem S128x512 .bf16).view.ref.isScScratch = false}
    {hsrc : (sendM c k).view.WordExact} {hdst : (slotM (back k)).view.WordExact}
    {hsem : DmaTarget.Typed .vmem (.dma (rcvS (back k))) (.remote (Dev.tc n : Thread nD τ) (slotM (back k)) (.dma (sndS k)) hsc)}
    {α : Type} {Q : α → sProp 𝕄} {kont : PUnit → Prog (TpuEff nD τ sig (Elt F) Λ₀ .tc) α}
    (O : CellTallies nD τ sig Unit) (W : Waits sig Unit) :
    iprop(records m K ∗ owes (c : Thread nD τ) (O + dueR c k) W ∗ sendPts m c k ∗ barPay c k
        ∗ dutyTok EX (sndC c k) 0 0 ∗ dutyTok EX (rcvC (peer c k) (back k)) 0 0)
      ⊢ iprop(((cred (tallyAt (sndC c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sendM c k) (.remote (Dev.tc n : Thread nD τ) (slotM (back k)) (.dma (sndS k)) hsc) (.dma (rcvS (back k))) hsrc hdst hsem) kont) Q) := by
  subst hn
  iintro ⟨#HK, HO, Hs, Hd, HtS, HtR⟩
  ihave Hk := (known_snd m K c k) $$ HK
  icases Hk with ⟨#HIs, #HRs⟩
  ihave Hk := (known_rcv m K (peer c k) (back k)) $$ HK
  icases Hk with ⟨#HIr, #HRr⟩
  unfold barPay sendPts slotPts
  icases Hd with ⟨%fd, Hd⟩
  iapply (Rounds.wp_send_pointsTo 𝒱₀ EX (plan m) (c : Thread nD τ) none (κ₁ := K (c, sndI k)) (κ₂ := K (peer c k, rcvI (back k)))
    (r₁ := 0) (r₂ := 0) (d₁ := 0) (d₂ := 0) (fd := fd)
    (by rw [duties_snd]; exact Finset.mem_singleton_self _) (by rw [duties_rcv]; exact Finset.mem_singleton_self _)
    () () N rfl (amount_snd m c k 0) (amount_rcv m (peer c k) (back k) 0) O rfl (W := W)
    (by rw [payload_snd]; exact BI.Entails.refl _)
    (by
      rw [payload_rcv]; unfold rcvPay slotPts
      exact Entails.of_eq (pointsTo_congr fun i hi => landed m c k fd i hi))) $$ [HO Hs Hd HtS HtR]
  isplitr; · iexact HIs
  isplitr; · iexact HIr
  isplitl [Hs]; · iexact Hs
  isplitl [Hd]; · iexact Hd
  isplitl [HO]; · iexact HO
  isplitl [HtS]; · iexact HtS
  isplitr; · iexact HRs
  isplitl [HtR]; · iexact HtR
  iexact HRr

/-- The wait for slot `r`: it comes filled, and its semaphore is back at zero for good. -/
theorem wp_collect (c : Dev nD) (r : Fin 3) {sp sp' : Space} {s s' : Shape} {e e' : EltTy}
    {src : Memref sig .tc sp' s' e'} {dst : Memref sig .tc sp s e} {hsrc : src.view.WordExact} {hdst : dst.view.WordExact}
    (hN : dst.view.dmaCredit = N) (W : Waits sig Unit)
    {α : Type} {Q : α → sProp 𝕄} {kont : PUnit → Prog (TpuEff nD τ sig (Elt F) Λ₀ .tc) α} :
    iprop(records m K ∗ owes (c : Thread nD τ) 0 W ∗ cred (tallyAt (rcvC c r) () N) ∗ atPos EX (rcvC c r) 0 ∅ 0)
      ⊢ iprop(((owes (c : Thread nD τ) 0 (insert (SemLoc.dma (rcvS r), ()) W) ∗ semVal (rcvC c r) 0 ∗ slotPts c r (inBuf m c))
              -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (rcvS r) src dst hsrc hdst) kont) Q) := by
  iintro ⟨#HK, HO, Hc, Ha⟩ Hk
  ihave Hkn := (known_rcv m K c r) $$ HK
  icases Hkn with ⟨#HI, -⟩
  iapply (Rounds.wp_wait_rest_token 𝒱₀ EX (plan m) (c : Thread nD τ) none (κ := K (c, rcvI r))
      (wpE_waitDma2_eq 𝒱₀ (c : Thread nD τ) none Set.univ) (Set.mem_univ _) () (O := 0) (W := W) (R := 0) (m := 0) (T := ∅)
      (by rw [Nat.zero_add, expect_rcv, hN])) $$ [Hc HO Ha]
  · isplitr; · iexact HI
    isplitl [Hc]; · rw [hN]; iexact Hc
    isplitl [HO]; · iexact HO
    isplitr; · rw [MayWait_zero]; iempintro
    iexact Ha
  iintro ⟨HO, Ha, -, Hp⟩
  ihave Hs := (Entails.of_eq (rest_rcv m c r)) $$ Hp
  imod (Rounds.cell_close EX (plan m) (Set.mem_univ (K (c, rcvI r))) (fun h => h) (R := 0 + 1) (duties_later m (rcvC c r))) $$ [Ha] with Hz
  · isplitr; · iexact HI
    iexact Ha
  iapply Hk
  isplitl [HO]; · iexact HO
  isplitl [Hz]; · iexact Hz
  unfold rcvPay; iexact Hs

/-- The wait for block `k` to have left: it is the device's again, and its semaphore is back at zero for good. -/
theorem wp_reclaim (c : Dev nD) (k : Fin 3) {sp sp' : Space} {s s' : Shape} {e e' : EltTy}
    {src : Memref sig .tc sp' s' e'} {dst : Memref sig .tc sp s e} {hsrc : src.view.WordExact} {hdst : dst.view.WordExact}
    (hN : dst.view.dmaCredit = N) (W : Waits sig Unit)
    {α : Type} {Q : α → sProp 𝕄} {kont : PUnit → Prog (TpuEff nD τ sig (Elt F) Λ₀ .tc) α} :
    iprop(records m K ∗ owes (c : Thread nD τ) 0 W ∗ cred (tallyAt (sndC c k) () N) ∗ atPos EX (sndC c k) 0 ∅ 0)
      ⊢ iprop(((owes (c : Thread nD τ) 0 (insert (SemLoc.dma (sndS k), ()) W) ∗ semVal (sndC c k) 0 ∗ sendPts m c k)
              -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sndS k) src dst hsrc hdst) kont) Q) := by
  iintro ⟨#HK, HO, Hc, Ha⟩ Hk
  ihave Hkn := (known_snd m K c k) $$ HK
  icases Hkn with ⟨#HI, -⟩
  iapply (Rounds.wp_wait_rest_token 𝒱₀ EX (plan m) (c : Thread nD τ) none (κ := K (c, sndI k))
      (wpE_waitDma2_eq 𝒱₀ (c : Thread nD τ) none Set.univ) (Set.mem_univ _) () (O := 0) (W := W) (R := 0) (m := 0) (T := ∅)
      (by rw [Nat.zero_add, expect_snd, hN])) $$ [Hc HO Ha]
  · isplitr; · iexact HI
    isplitl [Hc]; · rw [hN]; iexact Hc
    isplitl [HO]; · iexact HO
    isplitr; · rw [MayWait_zero]; iempintro
    iexact Ha
  iintro ⟨HO, Ha, -, Hp⟩
  ihave Hs := (Entails.of_eq (rest_snd m c k)) $$ Hp
  imod (Rounds.cell_close EX (plan m) (Set.mem_univ (K (c, sndI k))) (fun h => h) (R := 0 + 1) (duties_later m (sndC c k))) $$ [Ha] with Hz
  · isplitr; · iexact HI
    iexact Ha
  iapply Hk
  isplitl [HO]; · iexact HO
  isplitl [Hz]; · iexact Hz
  unfold sndPay; iexact Hs

/-- The wait on the barrier: the three slots to send into come with it. -/
theorem wp_gather (c : Dev nD) (amt : ℕ) (hamt : 3 = amt) (W : Waits sig Unit)
    {α : Type} {Q : α → sProp 𝕄} {kont : PUnit → Prog (TpuEff nD τ sig (Elt F) Λ₀ .tc) α} :
    iprop(records m K ∗ levAts L lv ∗ owes (c : Thread nD τ) (owedR c) W ∗ cred (tallyAt (barC c) () 3) ∗ atPos EX (barC c) 0 ∅ 0)
      ⊢ iprop(((owes (c : Thread nD τ) (owedR c) (insert (SemLoc.reg barS, ()) W) ∗ semVal (barC c) 0 ∗ barPay c 0 ∗ barPay c 1 ∗ barPay c 2)
              -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS amt) kont) Q) := by
  subst hamt
  iintro ⟨#HK, #Hlev, HO, Hc, Ha⟩ Hk
  ihave Hkn := (known_bar m K c) $$ HK
  icases Hkn with ⟨#HI, -⟩
  iapply (Rounds.wp_wait_rest_token 𝒱₀ EX (plan m) (c : Thread nD τ) none (κ := K (c, 0))
      (wpE_semWait_eq 𝒱₀ (c : Thread nD τ) none Set.univ) (Set.mem_univ _) () (O := owedR c) (W := W) (R := 0) (m := 0) (T := ∅)
      (by rw [Nat.zero_add, expect_bar])) $$ [Hc HO Ha]
  · isplitr; · iexact HI
    isplitl [Hc]; · iexact Hc
    isplitl [HO]; · iexact HO
    isplitr; · iapply (mayWait_bar c); iexact Hlev
    iexact Ha
  iintro ⟨HO, Ha, -, Hp⟩
  ihave Hs := (Entails.of_eq (rest_bar m c)) $$ Hp
  imod (Rounds.cell_close EX (plan m) (Set.mem_univ (K (c, 0))) (fun h => h) (R := 0 + 1) (duties_later m (barC c))) $$ [Ha] with Hz
  · isplitr; · iexact HI
    iexact Ha
  iapply Hk
  isplitl [HO]; · iexact HO
  isplitl [Hz]; · iexact Hz
  iexact Hs

end Moves

/-! ## The buffers taken apart and put together again -/

/-- The landing buffer is its three slots. -/
theorem slots_split (c : Dev nD) (f : (cc0_scratch2 : Ref sig .tc).ty.Contents (Elt F)) :
    (((c : Thread nD τ).loc cc0_scratch2) ↦{fullShare} f : sProp 𝕄) = iprop(slotPts c 0 f ∗ slotPts c 1 f ∗ slotPts c 2 f) := by
  rw [← three (F := F) (fun r => slotPts c r f)]
  show (((c : Thread nD τ).loc cc0_scratch2) ↦[(Finset.univ : Finset S3x128x512.Idx)]{fullShare} f : sProp 𝕄) = _
  rw [slots_cover, pointsTo_biUnion _ _ (fun r _ r' _ h => slots_disjoint h)]
  rfl

/-- The part of the outgoing buffer that is not sent. -/
def keptPts (c : Dev nD) : sProp 𝕄 :=
  ((c : Thread nD τ).loc cc0_scratch1) ↦[(Finset.univ : Finset S4x128x512.Idx) \ (Finset.univ : Finset (Fin 3)).biUnion (sendSet c)]{fullShare} (outBuf m c)

/-- The outgoing buffer is the three blocks sent and the rest. -/
theorem sends_split (c : Dev nD) :
    (((c : Thread nD τ).loc cc0_scratch1) ↦{fullShare} outBuf m c : sProp 𝕄)
      = iprop((sendPts m c 0 ∗ sendPts m c 1 ∗ sendPts m c 2) ∗ keptPts m c) := by
  rw [← three (F := F) (fun k => sendPts m c k)]
  have h : (Finset.univ : Finset (Fin 3)).biUnion (sendSet c) ⊆ (Finset.univ : Finset S4x128x512.Idx) := Finset.subset_univ _
  show (((c : Thread nD τ).loc cc0_scratch1) ↦[(Finset.univ : Finset S4x128x512.Idx)]{fullShare} outBuf m c : sProp 𝕄) = _
  have hs : (((c : Thread nD τ).loc cc0_scratch1) ↦[(Finset.univ : Finset (Fin 3)).biUnion (sendSet c)]{fullShare} outBuf m c : sProp 𝕄)
      = bigSep Finset.univ fun k => sendPts m c k := by
    rw [pointsTo_biUnion _ _ (fun k _ k' _ h => sends_disjoint c h)]
    rfl
  unfold keptPts
  rw [← hs]
  exact BI.Entails.antisymm (pointsTo_split_subset h).1 (pointsTo_split_subset h).2

end Cert.Exchange

end
-- ==== Proof.Parts.lean ====
/-
# The kernel, part by part

The kernel is printed in six parts and a tail. For each, what it needs, what it leaves, and the value it passes on: the
signals and the barrier with the first loads; the loads of the first two experts; the loads of the other two and the
stores of the partial sums; the first transfer; the other two transfers with the shared product and the first incoming
block; the other two incoming blocks and the sums; the store of the finished rows and the three outgoing waits.
-/
module

public import proofs.«01_k».proof.Proof.Step

@[expose] public section

set_option maxRecDepth 16384

noncomputable section

namespace Cert.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 7 → ℕ)

/-- The whole of buffer `b` of device `c`, holding `f`. -/
abbrev holds (c : Dev nD) (b : Ref sig .tc) (f : b.ty.Contents (Elt F)) : sProp 𝕄 := ((c : Thread nD τ).loc b) ↦{fullShare} f

/-! ## Loads and stores of a whole buffer -/

theorem zero2 : (![0, 0] : Fin 2 → ℕ) = fun _ => 0 := funext fun a => by fin_cases a <;> rfl

theorem read_x (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 zero2 _ f
theorem read_rt (f : (cc0_stg1_0 : Ref sig .tc).ty.Contents (Elt F)) :
    rtM.view.readAt (Elt F) (Rect.unit (s := S256x16) ![0, 0] S256x16.size inb_S256x16_S256x16_0_0).toLoadRect f = f :=
  Memref.readAt_unit_zero (Elt F) cc0_stg1_0 zero2 _ f
theorem read_id (f : (cc0_stg2_0 : Ref sig .tc).ty.Contents (Elt F)) :
    idM.view.readAt (Elt F) (Rect.unit (s := S512x1) ![0, 0] S512x1.size inb_S512x1_S512x1_0_0).toLoadRect f = f :=
  Memref.readAt_unit_zero (Elt F) cc0_stg2_0 zero2 _ f
theorem read_sh (f : (cc0_stg4_0 : Ref sig .tc).ty.Contents (Elt F)) :
    shM.view.readAt (Elt F) (Rect.unit (s := S256x512) ![0, 0] S256x512.size inb_S256x512_S256x512_0_0).toLoadRect f = f :=
  Memref.readAt_unit_zero (Elt F) cc0_stg4_0 zero2 _ f
theorem read_ex2 (c : Dev nD) :
    exM.view.readAt (Elt F) (Rect.unit (s := S4x256x512) ![2, 0, 0] S1x256x512.size inb_S4x256x512_S1x256x512_2_0_0).toLoadRect (exIn m c) = exRow m c 2 := rfl
theorem read_ex3 (c : Dev nD) :
    exM.view.readAt (Elt F) (Rect.unit (s := S4x256x512) ![3, 0, 0] S1x256x512.size inb_S4x256x512_S1x256x512_3_0_0).toLoadRect (exIn m c) = exRow m c 3 := rfl
theorem write_acc (f w : (cc0_scratch0 : Ref sig .tc).ty.Contents (Elt F)) :
    (accM.access (Rect.unit (s := S512x512) ![0, 0] S512x512.size inb_S512x512_S512x512_0_0) : View sig .tc _ _ _).write (Elt F) f w Finset.univ = w :=
  Memref.write_access_unit_zero_univ (Elt F) cc0_scratch0 zero2 _ f w
theorem write_out (f w : (cc0_stg5_0 : Ref sig .tc).ty.Contents (Elt F)) :
    (outM.access (Rect.unit (s := S128x512) ![0, 0] S128x512.size inb_S128x512_S128x512_0_0) : View sig .tc _ _ _).write (Elt F) f w Finset.univ = w :=
  Memref.write_access_unit_zero_univ (Elt F) cc0_stg5_0 zero2 _ f w

/-! ## The first part: signals, barrier, loads of the tokens and the router -/

/-- What the first part leaves. -/
def left₁ (c : Dev nD) (W : Waits sig Unit) : sProp 𝕄 :=
  iprop(owes (c : Thread nD τ) (owedR c) (insert (SemLoc.reg barS, ()) W) ∗ semVal (barC c) 0 ∗ barPay c 0 ∗ barPay c 1 ∗ barPay c 2
    ∗ holds c cc0_stg0_0 (xIn m c) ∗ holds c cc0_stg1_0 (rtIn m c))

theorem part1_run (c : Dev nD) (W : Waits sig Unit) (f0 : (cc0_scratch2 : Ref sig .tc).ty.Contents (Elt F)) (Q) :
    iprop((records m K ∗ levAts L lv ∗ owes (c : Thread nD τ) (owed₀ c) W ∗ cred (tallyAt (barC c) () 3) ∗ atPos EX (barC c) 0 ∅ 0
        ∗ (dutyTok EX (barC (peer c 0)) 0 (back 0) ∗ dutyTok EX (barC (peer c 1)) 0 (back 1) ∗ dutyTok EX (barC (peer c 2)) 0 (back 2))
        ∗ holds c cc0_scratch2 f0 ∗ holds c cc0_stg0_0 (xIn m c) ∗ holds c cc0_stg1_0 (rtIn m c))
      ∗ (left₁ m c W -∗ Q ⟨c, wrd c, vX m c, vNum m c, vDen m c⟩))
      ⊢ wp frame (wpE (defs₀ (F := F)) 𝒱₀ (c : Thread nD τ) none) Set.univ
          (k0_part1 xM (Memref.isWhole_whole _) rtM (Memref.isWhole_whole _) idM (Memref.isWhole_whole _) exM (Memref.isWhole_whole _)
            shM (Memref.isWhole_whole _) outM (Memref.isWhole_whole _) accM (Memref.isWhole_whole _) pbM (Memref.isWhole_whole _)
            inM (Memref.isWhole_whole _) cc0_scratch3 cc0_scratch4) Q := by
  rw [k0_part1_eq_skeleton]; unfold k0_part1_skel
  simp only [semSignalWord, semWaitWord, Prog.lift, Prog.bind_op, Prog.bind_ret, Prog.pure_eq_ret, wp_deviceId]
  iintro ⟨⟨#HK, #Hlev, HO, Hc, Ha, ⟨Ht0, Ht1, Ht2⟩, Hin, Hx, Hrt⟩, Hk⟩
  ihave Hs := (Entails.of_eq (slots_split c f0)) $$ Hin
  icases Hs with ⟨Hs0, Hs1, Hs2⟩
  unfold owed₀
  iapply (wp_tell m K c _ 0 (dev1_eq c) _ (by decide) (owedR c + dueB c 2 + dueB c 1) W f0) $$ [HO Ht0 Hs0]
  · isplitr; · iexact HK
    isplitl [HO]; · iexact HO
    isplitl [Ht0] <;> iassumption
  iintro HO
  iapply (wp_tell m K c _ 1 (dev2_eq c) _ (by decide) (owedR c + dueB c 2) W f0) $$ [HO Ht1 Hs1]
  · isplitr; · iexact HK
    isplitl [HO]; · iexact HO
    isplitl [Ht1] <;> iassumption
  iintro HO
  iapply (wp_tell m K c _ 2 (dev3_eq c) _ (by decide) (owedR c) W f0) $$ [HO Ht2 Hs2]
  · isplitr; · iexact HK
    isplitl [HO]; · iexact HO
    isplitl [Ht2] <;> iassumption
  iintro HO
  iapply (wp_gather m K c _ (by decide) W) $$ [HO Hc Ha]
  · isplitr; · iexact HK
    isplitr; · iexact Hlev
    isplitl [HO]; · iexact HO
    isplitl [Hc] <;> iassumption
  iintro ⟨HO, Hz, Hb0, Hb1, Hb2⟩
  iapply (wp_load 𝒱₀ (c : Thread nD τ) none Set.univ (m := xM) (Finset.subset_univ _)) $$ Hx; iintro Hx
  iapply (wp_load 𝒱₀ (c : Thread nD τ) none Set.univ (m := rtM) (Finset.subset_univ _)) $$ Hrt; iintro Hrt
  rw [read_x, read_rt, wp_ret]; imodintro
  show Entails' _ (Q ⟨c, wrd c, vX m c, vNum m c, vDen m c⟩)
  iapply Hk
  unfold left₁
  isplitl [HO]; · iexact HO
  isplitl [Hz]; · iexact Hz
  isplitl [Hb0]; · iexact Hb0
  isplitl [Hb1]; · iexact Hb1
  isplitl [Hb2]; · iexact Hb2
  isplitl [Hx] <;> iassumption

/-! ## The second part: loads of the token's experts' numbers and of two experts -/

theorem part2_run (c : Dev nD) (Q) :
    iprop((holds c cc0_stg2_0 (idIn m c) ∗ holds c cc0_stg3_0 (exIn m c))
      ∗ ((holds c cc0_stg2_0 (idIn m c) ∗ holds c cc0_stg3_0 (exIn m c)) -∗ Q ⟨vId m c, vW m c, wrd4 c, vTwo m c, vMask m c⟩))
      ⊢ wp frame (wpE (defs₀ (F := F)) 𝒱₀ (c : Thread nD τ) none) Set.univ
          (k0_part2 xM (Memref.isWhole_whole _) rtM (Memref.isWhole_whole _) idM (Memref.isWhole_whole _) exM (Memref.isWhole_whole _)
            shM (Memref.isWhole_whole _) outM (Memref.isWhole_whole _) accM (Memref.isWhole_whole _) pbM (Memref.isWhole_whole _)
            inM (Memref.isWhole_whole _) cc0_scratch3 cc0_scratch4 (wrd c) (vX m c) (vNum m c) (vDen m c)) Q := by
  rw [k0_part2_eq_skeleton]; unfold k0_part2_skel
  simp only [Prog.lift, Prog.bind_op, Prog.bind_ret, Prog.pure_eq_ret]
  iintro ⟨⟨Hid, Hex⟩, Hk⟩
  iapply (wp_load 𝒱₀ (c : Thread nD τ) none Set.univ (m := idM) (Finset.subset_univ _)) $$ Hid; iintro Hid
  iapply (wp_load 𝒱₀ (c : Thread nD τ) none Set.univ (m := exM) (Finset.subset_univ _)) $$ Hex; iintro Hex
  iapply (wp_load 𝒱₀ (c : Thread nD τ) none Set.univ (m := exM) (Finset.subset_univ _)) $$ Hex; iintro Hex
  rw [read_id, wp_ret]; imodintro
  show Entails' _ (Q ⟨vId m c, vW m c, wrd4 c, vTwo m c, vMask m c⟩)
  iapply Hk
  isplitl [Hid] <;> iassumption

/-! ## The third part: the other two experts, the partial sums stored -/

/-- The outgoing buffer after its first two blocks are stored over `g`. -/
def twoBlocks (c : Dev nD) (g : (cc0_scratch1 : Ref sig .tc).ty.Contents (Elt F)) : (cc0_scratch1 : Ref sig .tc).ty.Contents (Elt F) :=
  (pbM.access (blockR 1) : View sig .tc _ _ _).write (Elt F)
    ((pbM.access (blockR 0) : View sig .tc _ _ _).write (Elt F) g (vBlock m c 0) Finset.univ) (vBlock m c 1) Finset.univ

theorem part3_run (c : Dev nD) (f : (cc0_scratch0 : Ref sig .tc).ty.Contents (Elt F)) (g : (cc0_scratch1 : Ref sig .tc).ty.Contents (Elt F)) (Q) :
    iprop((holds c cc0_stg3_0 (exIn m c) ∗ holds c cc0_scratch0 f ∗ holds c cc0_scratch1 g)
      ∗ ((holds c cc0_stg3_0 (exIn m c) ∗ holds c cc0_scratch0 (vAcc m c) ∗ holds c cc0_scratch1 (twoBlocks m c g)) -∗ Q ⟨vAcc16 m c, vThird m c⟩))
      ⊢ wp frame (wpE (defs₀ (F := F)) 𝒱₀ (c : Thread nD τ) none) Set.univ
          (k0_part3 xM (Memref.isWhole_whole _) rtM (Memref.isWhole_whole _) idM (Memref.isWhole_whole _) exM (Memref.isWhole_whole _)
            shM (Memref.isWhole_whole _) outM (Memref.isWhole_whole _) accM (Memref.isWhole_whole _) pbM (Memref.isWhole_whole _)
            inM (Memref.isWhole_whole _) cc0_scratch3 cc0_scratch4 (vX m c) (vId m c) (vW m c) (wrd4 c) (vTwo m c) (vMask m c)) Q := by
  rw [k0_part3_eq_skeleton]; unfold k0_part3_skel
  simp only [Prog.lift, Prog.bind_op, Prog.bind_ret, Prog.pure_eq_ret]
  iintro ⟨⟨Hex, Hac, Hpb⟩, Hk⟩
  iapply (wp_load 𝒱₀ (c : Thread nD τ) none Set.univ (m := exM) (Finset.subset_univ _)) $$ Hex; iintro Hex
  iapply (wp_load 𝒱₀ (c : Thread nD τ) none Set.univ (m := exM) (Finset.subset_univ _)) $$ Hex; iintro Hex
  iapply (wp_load 𝒱₀ (c : Thread nD τ) none Set.univ (m := accM) (Finset.subset_univ _)) $$ Hac; iintro Hac
  iapply (wp_store 𝒱₀ (c : Thread nD τ) none Set.univ (m := accM) (r := Rect.unit (s := S512x512) ![0, 0] S512x512.size inb_S512x512_S512x512_0_0) (Mk := Finset.univ) (Finset.subset_univ _)) $$ Hac; iintro Hac
  iapply (wp_load 𝒱₀ (c : Thread nD τ) none Set.univ (m := pbM) (Finset.subset_univ _)) $$ Hpb; iintro Hpb
  iapply (wp_store 𝒱₀ (c : Thread nD τ) none Set.univ (m := pbM) (r := blockR 0) (Mk := Finset.univ) (Finset.subset_univ _)) $$ Hpb; iintro Hpb
  iapply (wp_load 𝒱₀ (c : Thread nD τ) none Set.univ (m := pbM) (Finset.subset_univ _)) $$ Hpb; iintro Hpb
  iapply (wp_store 𝒱₀ (c : Thread nD τ) none Set.univ (m := pbM) (r := blockR 1) (Mk := Finset.univ) (Finset.subset_univ _)) $$ Hpb; iintro Hpb
  rw [write_acc, wp_ret, read_ex2, read_ex3]; imodintro
  show Entails' _ (Q ⟨vAcc16 m c, vThird m c⟩)
  iapply Hk
  isplitl [Hex]; · iexact Hex
  isplitl [Hac]; · unfold vAcc; iexact Hac
  unfold twoBlocks vBlock; iexact Hpb

/-! ## The fourth part: the last two blocks stored, the first transfer -/

/-- What the fourth part leaves. -/
def left₄ (c : Dev nD) (W : Waits sig Unit) : sProp 𝕄 :=
  iprop(owes (c : Thread nD τ) (dueR c 2 + dueR c 1) W ∗ cred (tallyAt (sndC c 0) () N) ∗ sendPts m c 1 ∗ sendPts m c 2 ∗ keptPts m c)

theorem part4_run (c : Dev nD) (g : (cc0_scratch1 : Ref sig .tc).ty.Contents (Elt F)) (W : Waits sig Unit) (Q) :
    iprop((records m K ∗ holds c cc0_scratch1 (twoBlocks m c g) ∗ owes (c : Thread nD τ) (owedR c) W ∗ barPay c 0
        ∗ dutyTok EX (sndC c 0) 0 0 ∗ dutyTok EX (rcvC (peer c 0) (back 0)) 0 0)
      ∗ (left₄ m c W -∗ Q ⟨⟩))
      ⊢ wp frame (wpE (defs₀ (F := F)) 𝒱₀ (c : Thread nD τ) none) Set.univ
          (k0_part4 xM (Memref.isWhole_whole _) rtM (Memref.isWhole_whole _) idM (Memref.isWhole_whole _) exM (Memref.isWhole_whole _)
            shM (Memref.isWhole_whole _) outM (Memref.isWhole_whole _) accM (Memref.isWhole_whole _) pbM (Memref.isWhole_whole _)
            inM (Memref.isWhole_whole _) cc0_scratch3 cc0_scratch4 c (wrd c) (vAcc16 m c) (vThird m c)) Q := by
  rw [k0_part4_eq_skeleton]; unfold k0_part4_skel
  simp only [Prog.lift, Prog.bind_op, Prog.bind_ret, Prog.pure_eq_ret]
  iintro ⟨⟨#HK, Hpb, HO, Hd, Ht1, Ht2⟩, Hk⟩
  iapply (wp_load 𝒱₀ (c : Thread nD τ) none Set.univ (m := pbM) (Finset.subset_univ _)) $$ Hpb; iintro Hpb
  iapply (wp_store 𝒱₀ (c : Thread nD τ) none Set.univ (m := pbM) (r := blockR 2) (Mk := Finset.univ) (Finset.subset_univ _)) $$ Hpb; iintro Hpb
  iapply (wp_load 𝒱₀ (c : Thread nD τ) none Set.univ (m := pbM) (Finset.subset_univ _)) $$ Hpb; iintro Hpb
  iapply (wp_store 𝒱₀ (c : Thread nD τ) none Set.univ (m := pbM) (r := blockR 3) (Mk := Finset.univ) (Finset.subset_univ _)) $$ Hpb; iintro Hpb
  have hw : (pbM.access (blockR 3) : View sig .tc _ _ _).write (Elt F) ((pbM.access (blockR 2) : View sig .tc _ _ _).write (Elt F) (twoBlocks m c g)
      (k0_pay15 (vThird m c)) Finset.univ) (k0_pay16 (vAcc16 m c)) Finset.univ = outBuf m c := write_blocks m c g
  rw [hw]
  ihave Hpb := (Entails.of_eq (sends_split m c)) $$ Hpb
  icases Hpb with ⟨⟨Hs0, Hs1, Hs2⟩, Hkept⟩
  unfold owedR
  iapply (wp_ship m K c _ 0 (dev4_eq c) (dueR c 2 + dueR c 1) W) $$ [HO Hs0 Hd Ht1 Ht2]
  · isplitr; · iexact HK
    isplitl [HO]; · iexact HO
    isplitl [Hs0]; · iexact Hs0
    isplitl [Hd]; · iexact Hd
    isplitl [Ht1] <;> iassumption
  iintro ⟨Hc, HO⟩
  rw [wp_ret]; imodintro
  iapply Hk
  unfold left₄
  isplitl [HO]; · iexact HO
  isplitl [Hc]; · iexact Hc
  isplitl [Hs1]; · iexact Hs1
  isplitl [Hs2] <;> iassumption

/-! ## The fifth part: the other two transfers, the shared product, the first incoming block -/

/-- What the fifth part leaves. -/
def left₅ (c : Dev nD) (W : Waits sig Unit) : sProp 𝕄 :=
  iprop(owes (c : Thread nD τ) 0 (insert (SemLoc.dma (rcvS 0), ()) W) ∗ cred (tallyAt (sndC c 1) () N) ∗ cred (tallyAt (sndC c 2) () N)
    ∗ semVal (rcvC c 0) 0 ∗ slotPts c 0 (inBuf m c) ∗ holds c cc0_stg0_0 (xIn m c) ∗ holds c cc0_stg4_0 (shIn m c))

theorem part5_run (c : Dev nD) (W : Waits sig Unit) (Q) :
    iprop((records m K ∗ owes (c : Thread nD τ) (dueR c 2 + dueR c 1) W ∗ (sendPts m c 1 ∗ sendPts m c 2) ∗ (barPay c 1 ∗ barPay c 2)
        ∗ (dutyTok EX (sndC c 1) 0 0 ∗ dutyTok EX (rcvC (peer c 1) (back 1)) 0 0)
        ∗ (dutyTok EX (sndC c 2) 0 0 ∗ dutyTok EX (rcvC (peer c 2) (back 2)) 0 0)
        ∗ cred (tallyAt (rcvC c 0) () N) ∗ atPos EX (rcvC c 0) 0 ∅ 0 ∗ holds c cc0_stg0_0 (xIn m c) ∗ holds c cc0_stg4_0 (shIn m c))
      ∗ (left₅ m c W -∗ Q (vShared m c)))
      ⊢ wp frame (wpE (defs₀ (F := F)) 𝒱₀ (c : Thread nD τ) none) Set.univ
          (k0_part5 xM (Memref.isWhole_whole _) rtM (Memref.isWhole_whole _) idM (Memref.isWhole_whole _) exM (Memref.isWhole_whole _)
            shM (Memref.isWhole_whole _) outM (Memref.isWhole_whole _) accM (Memref.isWhole_whole _) pbM (Memref.isWhole_whole _)
            inM (Memref.isWhole_whole _) cc0_scratch3 cc0_scratch4 c (wrd c)) Q := by
  rw [k0_part5_eq_skeleton]; unfold k0_part5_skel
  simp only [Prog.lift, Prog.bind_op, Prog.bind_ret, Prog.pure_eq_ret]
  iintro ⟨⟨#HK, HO, ⟨Hs1, Hs2⟩, ⟨Hd1, Hd2⟩, ⟨Ht1, Hu1⟩, ⟨Ht2, Hu2⟩, Hcr, Ha, Hx, Hsh⟩, Hk⟩
  iapply (wp_ship m K c _ 1 (dev5_eq c) (dueR c 2) W) $$ [HO Hs1 Hd1 Ht1 Hu1]
  · isplitr; · iexact HK
    isplitl [HO]; · iexact HO
    isplitl [Hs1]; · iexact Hs1
    isplitl [Hd1]; · iexact Hd1
    isplitl [Ht1] <;> iassumption
  iintro ⟨Hc1, HO⟩
  iapply (wp_ship m K c _ 2 (dev6_eq c) 0 W) $$ [HO Hs2 Hd2 Ht2 Hu2]
  · isplitr; · iexact HK
    isplitl [HO]; · rw [zero_add]; iexact HO
    isplitl [Hs2]; · iexact Hs2
    isplitl [Hd2]; · iexact Hd2
    isplitl [Ht2] <;> iassumption
  iintro ⟨Hc2, HO⟩
  iapply (wp_load 𝒱₀ (c : Thread nD τ) none Set.univ (m := xM) (Finset.subset_univ _)) $$ Hx; iintro Hx
  iapply (wp_load 𝒱₀ (c : Thread nD τ) none Set.univ (m := shM) (Finset.subset_univ _)) $$ Hsh; iintro Hsh
  iapply (wp_collect m K c 0 rfl W) $$ [HO Hcr Ha]
  · isplitr; · iexact HK
    isplitl [HO]; · iexact HO
    isplitl [Hcr] <;> iassumption
  iintro ⟨HO, Hz, Hin⟩
  rw [read_sh, wp_ret]; imodintro
  show Entails' _ (Q (vShared m c))
  iapply Hk
  unfold left₅
  isplitl [HO]; · iexact HO
  isplitl [Hc1]; · iexact Hc1
  isplitl [Hc2]; · iexact Hc2
  isplitl [Hz]; · iexact Hz
  isplitl [Hin]; · iexact Hin
  isplitl [Hx] <;> iassumption

/-! ## The sixth part: the other two incoming blocks, the sums -/

/-- What the sixth part leaves. -/
def left₆ (c : Dev nD) (W : Waits sig Unit) : sProp 𝕄 :=
  iprop(owes (c : Thread nD τ) 0 (insert (SemLoc.dma (rcvS 2), ()) (insert (SemLoc.dma (rcvS 1), ()) W))
    ∗ semVal (rcvC c 1) 0 ∗ semVal (rcvC c 2) 0 ∗ holds c cc0_scratch2 (inBuf m c) ∗ holds c cc0_scratch0 (vAcc m c))

theorem part6_run (c : Dev nD) (W : Waits sig Unit) (Q) :
    iprop((records m K ∗ owes (c : Thread nD τ) 0 W ∗ (cred (tallyAt (rcvC c 1) () N) ∗ atPos EX (rcvC c 1) 0 ∅ 0)
        ∗ (cred (tallyAt (rcvC c 2) () N) ∗ atPos EX (rcvC c 2) 0 ∅ 0) ∗ slotPts c 0 (inBuf m c) ∗ holds c cc0_scratch0 (vAcc m c))
      ∗ (left₆ m c W -∗ Q ⟨vFour m c, vLast m c⟩))
      ⊢ wp frame (wpE (defs₀ (F := F)) 𝒱₀ (c : Thread nD τ) none) Set.univ
          (k0_part6 xM (Memref.isWhole_whole _) rtM (Memref.isWhole_whole _) idM (Memref.isWhole_whole _) exM (Memref.isWhole_whole _)
            shM (Memref.isWhole_whole _) outM (Memref.isWhole_whole _) accM (Memref.isWhole_whole _) pbM (Memref.isWhole_whole _)
            inM (Memref.isWhole_whole _) cc0_scratch3 cc0_scratch4 c (wrd c) (vShared m c)) Q := by
  rw [k0_part6_eq_skeleton]; unfold k0_part6_skel
  simp only [Prog.lift, Prog.bind_op, Prog.bind_ret, Prog.pure_eq_ret]
  iintro ⟨⟨#HK, HO, ⟨Hc1, Ha1⟩, ⟨Hc2, Ha2⟩, Hin0, Hac⟩, Hk⟩
  iapply (wp_collect m K c 1 (dst := slotM 1) rfl W) $$ [HO Hc1 Ha1]
  · isplitr; · iexact HK
    isplitl [HO]; · iexact HO
    isplitl [Hc1] <;> iassumption
  iintro ⟨HO, Hz1, Hin1⟩
  iapply (wp_collect m K c 2 (dst := slotM 2) rfl _) $$ [HO Hc2 Ha2]
  · isplitr; · iexact HK
    isplitl [HO]; · iexact HO
    isplitl [Hc2] <;> iassumption
  iintro ⟨HO, Hz2, Hin2⟩
  ihave Hin := (Entails.of_eq (slots_split c (inBuf m c)).symm) $$ [Hin0 Hin1 Hin2]
  · isplitl [Hin0]; · iexact Hin0
    isplitl [Hin1] <;> iassumption
  iapply (wp_load 𝒱₀ (c : Thread nD τ) none Set.univ (m := accM) (Finset.subset_univ _)) $$ Hac; iintro Hac
  iapply (wp_load 𝒱₀ (c : Thread nD τ) none Set.univ (m := inM) (Finset.subset_univ _)) $$ Hin; iintro Hin
  iapply (wp_load 𝒱₀ (c : Thread nD τ) none Set.univ (m := inM) (Finset.subset_univ _)) $$ Hin; iintro Hin
  iapply (wp_load 𝒱₀ (c : Thread nD τ) none Set.univ (m := inM) (Finset.subset_univ _)) $$ Hin; iintro Hin
  rw [wp_ret]; imodintro
  show Entails' _ (Q ⟨vFour m c, vLast m c⟩)
  iapply Hk
  unfold left₆
  isplitl [HO]; · iexact HO
  isplitl [Hz1]; · iexact Hz1
  isplitl [Hz2]; · iexact Hz2
  isplitl [Hin] <;> iassumption

end Cert.Exchange

end
-- ==== Proof.Body.lean ====
/-
# The kernel's body

The parts of `Parts.lean` joined: from the exchange's ghost state, the operands staged and the scratch buffers at any
contents, the kernel ends with its finished rows in the result's staging buffer, its operands as they were, and all of
its semaphores at zero.
-/
module

public import proofs.«01_k».proof.Proof.Parts
public import proofs.«01_k».proof.Proof.Gen.KernelIdeal.Points

@[expose] public section

set_option maxRecDepth 16384

noncomputable section

namespace Cert.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and ends with -/

/-- The tokens of the duties device `c` pays: one signal and one transfer to each other device, and its own blocks leaving. -/
def payToks (c : Dev nD) : sProp 𝕄 :=
  bigSep Finset.univ fun k : Fin 3 => iprop(dutyTok EX (barC (peer c k)) 0 (back k) ∗ dutyTok EX (rcvC (peer c k) (back k)) 0 0 ∗ dutyTok EX (sndC c k) 0 0)

def ghost (K : Dev nD × Fin 7 → ℕ) (c : Dev nD) : sProp 𝕄 :=
  iprop(records m K ∗ (bigSep Finset.univ fun i : Fin 7 => atPos EX (cellAt (c, i)) 0 ∅ 0) ∗ payToks c)

def start (c : Dev nD) : sProp 𝕄 :=
  iprop((∃ K, ghost m K c) ∗ cred (tallyAt (barC c) () 3) ∗ (bigSep Finset.univ fun r : Fin 3 => cred (tallyAt (rcvC c r) () N)) ∗ levAts L lv)

def scratch (c : Dev nD) : sProp 𝕄 :=
  iprop((∃ f, holds c cc0_scratch0 f) ∗ (∃ f, holds c cc0_scratch1 f) ∗ (∃ f, holds c cc0_scratch2 f))

def Φ₀ (c : Dev nD) : sProp 𝕄 := iprop(start m c ∗ scratch c)
def Φ₁ (c : Dev nD) : sProp 𝕄 := iprop(scratch c ∗ (bigSep Finset.univ fun i : Fin 7 => semVal (cellAt (c, i)) 0))

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => rtIn m c
    | ⟨2, _⟩ => idIn m c
    | ⟨3, _⟩ => exIn m c
    | ⟨4, _⟩ => shIn m c
    | ⟨5, _⟩ => outAt m c
  Φ t := match t with
    | ⟨0, _⟩ => Φ₀ m c
    | ⟨_ + 1, _⟩ => Φ₁ c
  q _ := fullShare
  owed t := match t with
    | ⟨0, _⟩ => owed₀ c
    | ⟨_ + 1, _⟩ => 0

/-- A staging buffer at stated contents. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

section Body
variable (K : Dev nD × Fin 7 → ℕ)

/-- The kernel on its own buffers. -/
abbrev kernelBody : Prog (TpuEff nD τ sig (Elt F) Λ₀ .tc) PUnit :=
  cc0_body xM (Memref.isWhole_whole _) rtM (Memref.isWhole_whole _) idM (Memref.isWhole_whole _) exM (Memref.isWhole_whole _)
    shM (Memref.isWhole_whole _) outM (Memref.isWhole_whole _) accM (Memref.isWhole_whole _) pbM (Memref.isWhole_whole _)
    inM (Memref.isWhole_whole _) cc0_scratch3 cc0_scratch4

/-- The staging buffers of the five operands. -/
def operands (c : Dev nD) : sProp 𝕄 :=
  iprop(holds c cc0_stg0_0 (xIn m c) ∗ holds c cc0_stg1_0 (rtIn m c) ∗ holds c cc0_stg2_0 (idIn m c) ∗ holds c cc0_stg3_0 (exIn m c)
    ∗ holds c cc0_stg4_0 (shIn m c))

/-- The waits the kernel has made, on top of those made before it. -/
abbrev waited (W : Waits sig Unit) : Waits sig Unit :=
  insert (SemLoc.dma (sndS 2), ()) (insert (SemLoc.dma (sndS 1), ()) (insert (SemLoc.dma (sndS 0), ())
    (insert (SemLoc.dma (rcvS 2), ()) (insert (SemLoc.dma (rcvS 1), ()) (insert (SemLoc.dma (rcvS 0), ()) (insert (SemLoc.reg barS, ()) W))))))

set_option maxHeartbeats 800000 in
/-- The kernel's run on one device. -/
theorem body_run (c : Dev nD) (W : Waits sig Unit) (o : (cc0_stg5_0 : Ref sig .tc).ty.Contents (Elt F)) (Q : PUnit → sProp 𝕄) :
    iprop((ghost m K c ∗ cred (tallyAt (barC c) () 3) ∗ (bigSep Finset.univ fun r : Fin 3 => cred (tallyAt (rcvC c r) () N)) ∗ levAts L lv
        ∗ scratch c ∗ owes (c : Thread nD τ) (owed₀ c) W ∗ operands m c ∗ holds c cc0_stg5_0 o)
      ∗ ((Φ₁ c ∗ owes (c : Thread nD τ) 0 (waited W) ∗ operands m c ∗ holds c cc0_stg5_0 (outAt m c)) -∗ Q ⟨⟩))
      ⊢ wp frame (wpE (defs₀ (F := F)) 𝒱₀ (c : Thread nD τ) none) Set.univ (kernelBody (F := F)) Q := by
  unfold kernelBody
  rw [cc0_body_eq_skeleton]; unfold cc0_body_skel
  unfold ghost payToks scratch operands
  rw [three, three, seven]
  iintro ⟨⟨⟨#HK, ⟨HaB, HaS0, HaS1, HaS2, HaR0, HaR1, HaR2⟩, ⟨HtB0, HtR0, HtS0⟩, ⟨HtB1, HtR1, HtS1⟩, HtB2, HtR2, HtS2⟩,
    HcB, ⟨HcR0, HcR1, HcR2⟩, #Hlev, ⟨⟨%f0, Hac⟩, ⟨%f1, Hpb⟩, %f2, Hin⟩, HO, ⟨Hx, Hrt, Hid, Hex, Hsh⟩, Hout⟩, Hk⟩
  -- signals, barrier
  rw [wp_bind]
  iapply (part1_run m K c W f2)
  isplitl [HO HcB HaB HtB0 HtB1 HtB2 Hin Hx Hrt]
  · isplitr; · iexact HK
    isplitr; · iexact Hlev
    isplitl [HO]; · iexact HO
    isplitl [HcB]; · iexact HcB
    isplitl [HaB]; · iexact HaB
    isplitl [HtB0 HtB1 HtB2]
    · isplitl [HtB0]; · iexact HtB0
      isplitl [HtB1] <;> iassumption
    isplitl [Hin]; · iexact Hin
    isplitl [Hx] <;> iassumption
  unfold left₁
  iintro ⟨HO, HzB, Hb0, Hb1, Hb2, Hx, Hrt⟩
  dsimp only
  -- the first two experts
  rw [wp_bind]
  iapply (part2_run m c)
  isplitl [Hid Hex]
  · isplitl [Hid] <;> iassumption
  iintro ⟨Hid, Hex⟩
  dsimp only
  -- the other two; the partial sums
  rw [wp_bind]
  iapply (part3_run m c f0 f1)
  isplitl [Hex Hac Hpb]
  · isplitl [Hex]; · iexact Hex
    isplitl [Hac] <;> iassumption
  iintro ⟨Hex, Hac, Hpb⟩
  dsimp only
  -- the first transfer
  rw [wp_bind]
  iapply (part4_run m K c f1 (insert (SemLoc.reg barS, ()) W))
  isplitl [Hpb HO Hb0 HtS0 HtR0]
  · isplitr; · iexact HK
    isplitl [Hpb]; · iexact Hpb
    isplitl [HO]; · iexact HO
    isplitl [Hb0]; · iexact Hb0
    isplitl [HtS0] <;> iassumption
  unfold left₄
  iintro ⟨HO, HcS0, Hs1, Hs2, Hkept⟩
  -- the other two; the first incoming block
  rw [wp_bind]
  iapply (part5_run m K c (insert (SemLoc.reg barS, ()) W))
  isplitl [HO Hs1 Hs2 Hb1 Hb2 HtS1 HtR1 HtS2 HtR2 HcR0 HaR0 Hx Hsh]
  · isplitr; · iexact HK
    isplitl [HO]; · iexact HO
    isplitl [Hs1 Hs2]
    · isplitl [Hs1] <;> iassumption
    isplitl [Hb1 Hb2]
    · isplitl [Hb1] <;> iassumption
    isplitl [HtS1 HtR1]
    · isplitl [HtS1] <;> iassumption
    isplitl [HtS2 HtR2]
    · isplitl [HtS2] <;> iassumption
    isplitl [HcR0]; · iexact HcR0
    isplitl [HaR0]; · iexact HaR0
    isplitl [Hx] <;> iassumption
  unfold left₅
  iintro ⟨HO, HcS1, HcS2, HzR0, Hin0, Hx, Hsh⟩
  -- the other incoming blocks
  rw [wp_bind]
  iapply (part6_run m K c (insert (SemLoc.dma (rcvS 0), ()) (insert (SemLoc.reg barS, ()) W)))
  isplitl [HO HcR1 HaR1 HcR2 HaR2 Hin0 Hac]
  · isplitr; · iexact HK
    isplitl [HO]; · iexact HO
    isplitl [HcR1 HaR1]
    · isplitl [HcR1] <;> iassumption
    isplitl [HcR2 HaR2]
    · isplitl [HcR2] <;> iassumption
    isplitl [Hin0] <;> iassumption
  unfold left₆
  iintro ⟨HO, HzR1, HzR2, Hin, Hac⟩
  -- the finished rows, the outgoing waits
  simp only [Prog.lift, Prog.bind_op, Prog.bind_ret, Prog.pure_eq_ret]
  iapply (wp_load 𝒱₀ (c : Thread nD τ) none Set.univ (m := outM) (Finset.subset_univ _)) $$ Hout; iintro Hout
  iapply (wp_store 𝒱₀ (c : Thread nD τ) none Set.univ (m := outM)
    (r := Rect.unit (s := S128x512) ![0, 0] S128x512.size inb_S128x512_S128x512_0_0) (Mk := Finset.univ) (Finset.subset_univ _)) $$ Hout; iintro Hout
  rw [write_out]
  iapply (wp_reclaim m K c 0 (dst := sendM c 0) rfl _) $$ [HO HcS0 HaS0]
  · isplitr; · iexact HK
    isplitl [HO]; · iexact HO
    isplitl [HcS0] <;> iassumption
  iintro ⟨HO, HzS0, Hs0⟩
  iapply (wp_reclaim m K c 1 (dst := sendM c 1) rfl _) $$ [HO HcS1 HaS1]
  · isplitr; · iexact HK
    isplitl [HO]; · iexact HO
    isplitl [HcS1] <;> iassumption
  iintro ⟨HO, HzS1, Hs1⟩
  iapply (wp_reclaim m K c 2 (dst := sendM c 2) rfl _) $$ [HO HcS2 HaS2]
  · isplitr; · iexact HK
    isplitl [HO]; · iexact HO
    isplitl [HcS2] <;> iassumption
  iintro ⟨HO, HzS2, Hs2⟩
  ihave Hpb := (Entails.of_eq (sends_split m c).symm) $$ [Hs0 Hs1 Hs2 Hkept]
  · isplitr [Hkept]
    · isplitl [Hs0]; · iexact Hs0
      isplitl [Hs1] <;> iassumption
    · iexact Hkept
  rw [wp_ret]; imodintro
  iapply Hk
  unfold Φ₁ scratch
  rw [seven]
  isplitl [Hac Hpb Hin HzB HzS0 HzS1 HzS2 HzR0 HzR1 HzR2]
  · isplitl [Hac Hpb Hin]
    · isplitl [Hac]; · iexists _; iexact Hac
      isplitl [Hpb]; · iexists _; iexact Hpb
      iexists _; iexact Hin
    isplitl [HzB]; · iexact HzB
    isplitl [HzS0]; · iexact HzS0
    isplitl [HzS1]; · iexact HzS1
    isplitl [HzS2]; · iexact HzS2
    isplitl [HzR0]; · iexact HzR0
    isplitl [HzR1] <;> iassumption
  isplitl [HO]; · iexact HO
  isplitr [Hout]
  · isplitl [Hx]; · iexact Hx
    isplitl [Hrt]; · iexact Hrt
    isplitl [Hid]; · iexact Hid
    isplitl [Hex] <;> iassumption
  unfold outAt; iexact Hout

/-! ## The body as the pipeline asks for it -/

set_option maxRecDepth 4000 in
def bodyPre (c : Dev nD) : sProp 𝕄 :=
  iprop(Φ₀ m c ∗ (dats m 0 c).owesAt () t0_0.castSucc
    ∗ (∃ d, staged c cc0_stg0_0 ((dats m 0 c).before (0 : Fin 6) t0_0 d))
    ∗ (∃ d, staged c cc0_stg1_0 ((dats m 0 c).before (1 : Fin 6) t0_0 d))
    ∗ (∃ d, staged c cc0_stg2_0 ((dats m 0 c).before (2 : Fin 6) t0_0 d))
    ∗ (∃ d, staged c cc0_stg3_0 ((dats m 0 c).before (3 : Fin 6) t0_0 d))
    ∗ (∃ d, staged c cc0_stg4_0 ((dats m 0 c).before (4 : Fin 6) t0_0 d))
    ∗ (∃ d, staged c cc0_stg5_0 ((dats m 0 c).before (5 : Fin 6) t0_0 d)))

def bodyPost (c : Dev nD) : sProp 𝕄 :=
  iprop(Φ₁ c ∗ (dats m 0 c).owesAt () t0_0.succ ∗ staged c cc0_stg0_0 (xIn m c) ∗ staged c cc0_stg1_0 (rtIn m c)
    ∗ staged c cc0_stg2_0 (idIn m c) ∗ staged c cc0_stg3_0 (exIn m c) ∗ staged c cc0_stg4_0 (shIn m c) ∗ staged c cc0_stg5_0 (outAt m c))

theorem before_x (c : Dev nD) (d) : (dats m 0 c).before (0 : Fin 6) t0_0 d = xIn m c := by
  unfold Dat.before; rw [if_pos (fetch0_0 t0_0)]; rfl
theorem before_rt (c : Dev nD) (d) : (dats m 0 c).before (1 : Fin 6) t0_0 d = rtIn m c := by
  unfold Dat.before; rw [if_pos (fetch0_1 t0_0)]; rfl
theorem before_id (c : Dev nD) (d) : (dats m 0 c).before (2 : Fin 6) t0_0 d = idIn m c := by
  unfold Dat.before; rw [if_pos (fetch0_2 t0_0)]; rfl
theorem before_ex (c : Dev nD) (d) : (dats m 0 c).before (3 : Fin 6) t0_0 d = exIn m c := by
  unfold Dat.before; rw [if_pos (fetch0_3 t0_0)]; rfl
theorem before_sh (c : Dev nD) (d) : (dats m 0 c).before (4 : Fin 6) t0_0 d = shIn m c := by
  unfold Dat.before; rw [if_pos (fetch0_4 t0_0)]; rfl

set_option maxRecDepth 4000 in
/-- The pipeline's obligation on the body, on every device. -/
theorem body_obligation (c : Dev nD) : BodyObligation (dats (F := F) m 0 c) (defs₀ (F := F)) 𝒱₀ () Set.univ := fun t => by
  rw [fin_N0 t]
  rw [bigSep_W0, bigSep_W0]
  simp only [owns_staged]
  show bodyPre m c ⊢ wp frame (wpE (defs₀ (F := F)) 𝒱₀ c none) Set.univ (kernelBody (F := F)) (fun _ => bodyPost m c)
  unfold bodyPre Φ₀ start
  iintro ⟨⟨⟨⟨%K, Hg⟩, HcB, HcR, Hlev⟩, Hscr⟩, Ho, ⟨%d0, %g0, %h0, Hx⟩, ⟨%d1, %g1, %h1, Hrt⟩, ⟨%d2, %g2, %h2, Hid⟩,
    ⟨%d3, %g3, %h3, Hex⟩, ⟨%d4, %g4, %h4, Hsh⟩, ⟨%d5, %g5, %h5, Hout⟩⟩
  rw [before_x] at h0; rw [before_rt] at h1; rw [before_id] at h2; rw [before_ex] at h3; rw [before_sh] at h4
  subst h0 h1 h2 h3 h4
  unfold Dat.owesAt Pipeline.owesWithin
  icases Ho with ⟨%W, %hW, HO⟩
  rw [show (dats m 0 c).owed t0_0.castSucc = owed₀ c from rfl]
  iapply (body_run m K c W g5 fun _ => bodyPost m c)
  isplitl
  · isplitl [Hg]; · iexact Hg
    isplitl [HcB]; · iexact HcB
    isplitl [HcR]; · iexact HcR
    isplitl [Hlev]; · iexact Hlev
    isplitl [Hscr]; · iexact Hscr
    isplitl [HO]; · iexact HO
    isplitr [Hout]
    · unfold operands
      isplitl [Hx]; · iexact Hx
      isplitl [Hrt]; · iexact Hrt
      isplitl [Hid]; · iexact Hid
      isplitl [Hex] <;> iassumption
    iexact Hout
  · unfold operands bodyPost Dat.owesAt Pipeline.owesWithin
    rw [show (dats m 0 c).owed t0_0.succ = 0 from rfl]
    iintro ⟨HΦ, HO, ⟨Hx, Hrt, Hid, Hex, Hsh⟩, Hout⟩
    isplitl [HΦ]; · iexact HΦ
    isplitl [HO]
    · iexists (waited W)
      isplitr; · ipureintro; exact fun _ _ => Or.inl trivial
      iexact HO
    isplitl [Hx]
    · iexists _; isplitr; · (ipureintro; rfl)
      iexact Hx
    isplitl [Hrt]
    · iexists _; isplitr; · (ipureintro; rfl)
      iexact Hrt
    isplitl [Hid]
    · iexists _; isplitr; · (ipureintro; rfl)
      iexact Hid
    isplitl [Hex]
    · iexists _; isplitr; · (ipureintro; rfl)
      iexact Hex
    isplitl [Hsh]
    · iexists _; isplitr; · (ipureintro; rfl)
      iexact Hsh
    iexists _; isplitr; · (ipureintro; rfl)
    iexact Hout

end Body

end Cert.Exchange

end
-- ==== Proof.Launch.lean ====
/-
# The launch

The exchange's ghost state is minted for the whole mesh, every device's semaphores become protocol cells, and the tokens
are dealt: a device gets the tokens of the duties it will pay, each of which was minted with the cell it is paid to. With
the credits for what the others owe it, that is what `Body.lean` starts from. The outcome: on every device the result
array ends at the kernel's finished rows, the operand arrays end as they began, and every semaphore ends at zero.
-/
module

public import proofs.«01_k».proof.Proof.Body
public import Idealize.ShloMosaic.Lib.Pipeline.CollectiveSegs
public import Idealize.ShloMosaic.Lib.Pipeline.ValueKit.Geometry

@[expose] public section

set_option maxRecDepth 16384

noncomputable section

namespace Cert.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem cellSem_injective : Function.Injective cellSem := by decide

theorem cellAt_injective : Function.Injective (cellAt : Dev nD × Fin 7 → GSem nD τ sig) := by
  rintro ⟨c, i⟩ ⟨d, j⟩ h
  obtain rfl : c = d := congrArg (fun g : GSem nD τ sig => g.1.1) h
  obtain rfl : i = j := cellSem_injective (congrArg Prod.snd h)
  rfl

def allCells : Finset (GSem nD τ sig) := Finset.univ.map ⟨cellAt, cellAt_injective⟩

/-- The duties of a device's own cells, three for each step: a signal, a block landing, a block leaving. -/
abbrev dutySem (kj : Fin 3 × Fin 3) : SemLoc sig × Fin 3 := match kj.2 with
  | 0 => (.reg barS, kj.1) | 1 => (.dma (rcvS kj.1), 0) | 2 => (.dma (sndS kj.1), 0)
abbrev dutyAt (ckj : Dev nD × (Fin 3 × Fin 3)) : GSem nD τ sig × ℕ × Fin 3 :=
  (((ckj.1 : Thread nD τ), (dutySem ckj.2).1), 0, (dutySem ckj.2).2)

theorem dutySem_injective : Function.Injective dutySem := by decide

theorem dutyAt_injective : Function.Injective dutyAt := by
  rintro ⟨c, i⟩ ⟨d, j⟩ h
  obtain rfl : c = d := congrArg (fun x : GSem nD τ sig × ℕ × Fin 3 => x.1.1.1) h
  obtain rfl : i = j := dutySem_injective (Prod.ext (congrArg (fun x : GSem nD τ sig × ℕ × Fin 3 => x.1.2) h) (congrArg (fun x : GSem nD τ sig × ℕ × Fin 3 => x.2.2) h))
  rfl

def allDuties : Finset (GSem nD τ sig × ℕ × Fin 3) := Finset.univ.map ⟨dutyAt, dutyAt_injective⟩

def u₀ : UU := (initOf (Pipeline.cells cfgs cellOf_inj) (Pipeline.launchToks cfgs cellOf_inj), initOf allCells allDuties)

/-- The tokens minted with device `c`'s own cells. -/
def ownToks (c : Dev nD) : sProp 𝕄 :=
  bigSep Finset.univ fun k : Fin 3 => iprop(dutyTok EX (barC c) 0 k ∗ dutyTok EX (rcvC c k) 0 0 ∗ dutyTok EX (sndC c k) 0 0)

/-- What a device gets of the minted state, and what it has once the cells are shared and the tokens dealt. -/
def minted (c : Dev nD) : sProp 𝕄 :=
  iprop((bigSep Finset.univ fun i : Fin 7 => roundState EX (plan m) (cellAt (c, i)) 0)
    ∗ (bigSep Finset.univ fun i : Fin 7 => atPos EX (cellAt (c, i)) 0 ∅ 0)
    ∗ (bigSep Finset.univ fun i : Fin 7 => reached EX (cellAt (c, i)) 0) ∗ ownToks c)
def dealt (c : Dev nD) : sProp 𝕄 := iprop(∃ K, ghost m K c)

theorem mint : BI.own (EX (initOf allCells allDuties)) ⊢ (|==> bigSep Finset.univ (minted m) : sProp 𝕄) := by
  have hcells (Φ : GSem nD τ sig → sProp 𝕄) : bigSep allCells Φ = bigSep Finset.univ fun c : Dev nD => bigSep Finset.univ fun i : Fin 7 => Φ (cellAt (c, i)) := by
    unfold allCells; rw [bigSep_map, bigSep_univ_prod]; rfl
  have htoks : bigSep allDuties (fun x => (dutyTok EX x.1 x.2.1 x.2.2 : sProp 𝕄)) = bigSep Finset.univ fun c : Dev nD => ownToks c := by
    unfold allDuties; rw [bigSep_map, bigSep_univ_prod]
    refine bigSep_congr fun c _ => ?_
    unfold ownToks; rw [bigSep_univ_prod]
    exact bigSep_congr fun k _ => by rw [three]; rfl
  iintro H
  imod (Rounds.fund EX (plan m) allCells allDuties) $$ H with ⟨Hst, Hre, Hat, Htok⟩
  imodintro
  unfold minted; simp only [bigSep_sep']
  isplitl [Hst]; · iapply (Entails.of_eq (hcells fun g => roundState EX (plan m) g 0)); iexact Hst
  isplitl [Hat]; · iapply (Entails.of_eq (hcells fun g => atPos EX g 0 ∅ 0)); iexact Hat
  isplitl [Hre]; · iapply (Entails.of_eq (hcells fun g => reached EX g 0)); iexact Hre
  iapply (Entails.of_eq htoks); iexact Htok

/-! ## Sharing the cells, dealing the tokens -/

theorem ownSems_eq (c : Dev nD) : (Pipeline.ownSems0 (Ix := Unit) (Name := ℕ) (U := UU) (Lvl := ℕ) (Val := Elt F) (τ := τ) ownSem c : sProp 𝕄)
    = iprop(semVal (sndC c 0) 0 ∗ semVal (sndC c 1) 0 ∗ semVal (sndC c 2) 0 ∗ semVal (rcvC c 0) 0 ∗ semVal (rcvC c 1) 0 ∗ semVal (rcvC c 2) 0) := by
  rw [Pipeline.ownSems0_eq_of_list c ownSem [0, 1, 2, 3, 4, 5] (by decide) (by decide)]; rfl

theorem barSem_eq (c : Dev nD) : (unscopedSems0 c : sProp 𝕄) = semVal (barC c) 0 := by
  unfold unscopedSems0; rw [bigSep_eq_bigSepL_of_eq [SemLoc.reg barS] (by decide) (by decide)]; rfl

/-- A device's seven counters at zero. -/
theorem counters_eq (c : Dev nD) :
    (bigSep Finset.univ fun i : Fin 7 => semVal (cellAt (c, i)) 0 : sProp 𝕄)
      = iprop(unscopedSems0 c ∗ Pipeline.ownSems0 (Ix := Unit) (Name := ℕ) (U := UU) (Lvl := ℕ) (Val := Elt F) (τ := τ) ownSem c) := by
  rw [ownSems_eq, barSem_eq, seven]

theorem share_cells (c : Dev nD) :
    iprop(Pipeline.ownSems0 (Ix := Unit) (Name := ℕ) (U := UU) (Lvl := ℕ) (Val := Elt F) (τ := τ) ownSem c ∗ unscopedSems0 c ∗ minted m c)
      ⊢ |={Set.univ}=> iprop((bigSep Finset.univ fun i : Fin 7 => iprop(∃ κ : ℕ, cellInv EX (plan m) κ (cellAt (c, i))))
          ∗ (bigSep Finset.univ fun i : Fin 7 => atPos EX (cellAt (c, i)) 0 ∅ 0)
          ∗ (bigSep Finset.univ fun i : Fin 7 => reached EX (cellAt (c, i)) 0) ∗ ownToks c) := by
  unfold minted
  iintro ⟨Hos, Hus, Hst, Hrest⟩
  ihave Hv := (Entails.of_eq (counters_eq (F := F) c).symm) $$ [Hos Hus]
  · isplitl [Hus] <;> iassumption
  imod (show iprop((bigSep Finset.univ fun i : Fin 7 => semVal (cellAt (c, i)) 0) ∗ bigSep Finset.univ fun i : Fin 7 => roundState EX (plan m) (cellAt (c, i)) 0)
      ⊢ (|={Set.univ}=> bigSep Finset.univ fun i : Fin 7 => iprop(∃ κ : ℕ, cellInv EX (plan m) κ (cellAt (c, i))) : sProp 𝕄) from by
        rw [← bigSep_sep']
        exact (bigSep_mono fun i _ => (Rounds.body_intro EX (plan m) (cellAt (c, i))).trans inv_alloc).trans (bigSep_fupd _ _)) $$ [Hv Hst] with Hinv
  · isplitl [Hv] <;> iassumption
  imodintro
  isplitl [Hinv] <;> iassumption

/-- Device and step, seen from the other end of the step. -/
def across : Dev nD × Fin 3 ≃ Dev nD × Fin 3 :=
  ⟨fun ck => (peer ck.1 ck.2, back ck.2), fun ck => (peer ck.1 ck.2, back ck.2),
    by decide, by decide⟩

/-- Every token minted with a cell, given to the device that pays the duty. -/
theorem deal : (bigSep Finset.univ fun c : Dev nD => (ownToks c : sProp 𝕄)) = bigSep Finset.univ fun c : Dev nD => payToks c := by
  unfold ownToks payToks
  rw [← bigSep_univ_prod (fun ck : Dev nD × Fin 3 => (iprop(dutyTok EX (barC ck.1) 0 ck.2 ∗ dutyTok EX (rcvC ck.1 ck.2) 0 0 ∗ dutyTok EX (sndC ck.1 ck.2) 0 0) : sProp 𝕄)),
    ← bigSep_univ_prod (fun ck : Dev nD × Fin 3 => (iprop(dutyTok EX (barC (peer ck.1 ck.2)) 0 (back ck.2) ∗ dutyTok EX (rcvC (peer ck.1 ck.2) (back ck.2)) 0 0 ∗ dutyTok EX (sndC ck.1 ck.2) 0 0) : sProp 𝕄)),
    bigSep_sep', bigSep_sep', bigSep_sep', bigSep_sep',
    bigSep_univ_equiv across (fun ck : Dev nD × Fin 3 => (dutyTok EX (barC ck.1) 0 ck.2 : sProp 𝕄)),
    bigSep_univ_equiv across (fun ck : Dev nD × Fin 3 => (dutyTok EX (rcvC ck.1 ck.2) 0 0 : sProp 𝕄))]
  rfl

/-- Something persistent beside a conjunction is beside every member of it. -/
theorem beside_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_all :
    (bigSep Finset.univ fun c : Dev nD => iprop((bigSep Finset.univ fun i : Fin 7 => iprop(∃ κ : ℕ, cellInv EX (plan m) κ (cellAt (c, i))))
          ∗ (bigSep Finset.univ fun i : Fin 7 => atPos EX (cellAt (c, i)) 0 ∅ 0)
          ∗ (bigSep Finset.univ fun i : Fin 7 => reached EX (cellAt (c, i)) 0) ∗ ownToks c) : sProp 𝕄)
      ⊢ bigSep Finset.univ (dealt m) := by
  rw [bigSep_sep', bigSep_sep', bigSep_sep', deal,
    ← bigSep_univ_prod (fun ci : Dev nD × Fin 7 => iprop(∃ κ : ℕ, cellInv EX (plan m) κ (cellAt ci))),
    ← bigSep_univ_prod (fun ci : Dev nD × Fin 7 => (reached EX (cellAt ci) 0 : sProp 𝕄))]
  iintro ⟨HI, Hat, #Hre, Htok⟩
  ihave HK := (BI.bigSep_exists_pi Finset.univ (fun (ci : Dev nD × Fin 7) (κ : ℕ) => (cellInv EX (plan m) κ (cellAt ci) : sProp 𝕄))) $$ HI
  icases HK with ⟨%K, #HI⟩
  iapply (beside_all (R := records m K)
    (Φ := fun c : Dev nD => iprop((bigSep Finset.univ fun i : Fin 7 => atPos EX (cellAt (c, i)) 0 ∅ 0) ∗ payToks c))
    (Ψ := dealt m) fun c _ => by
      unfold dealt ghost
      iintro H
      iexists K
      iexact H)
  rw [bigSep_sep']
  isplitr
  · unfold records; isplitl; · iexact HI
    iexact Hre
  isplitl [Hat] <;> iassumption

/-- The mesh's step at the launch: all semaphores into cells at once. -/
theorem settle : (bigSep Finset.univ fun c => iprop(Pipeline.ownSems0 (Ix := Unit) (Name := ℕ) (U := UU) (Lvl := ℕ) (Val := Elt F) (τ := τ) ownSem c ∗ unscopedSems0 c ∗ minted m c) : sProp 𝕄)
    ⊢ |={Set.univ}=> bigSep Finset.univ (dealt m) :=
  ((bigSep_mono fun c _ => share_cells m c).trans (bigSep_fupd _ _)).trans (BI.fupd_mono (deal_all m))

/-! ## The credits -/

theorem barC_inj {a b : Dev nD} : barC a = barC b ↔ a = b :=
  ⟨fun h => congrArg (fun g : GSem nD τ sig => g.1.1) h, fun h => h ▸ rfl⟩
theorem rcvC_inj {a b : Dev nD} {r s : Fin 3} : rcvC a r = rcvC b s ↔ a = b ∧ r = s :=
  ⟨fun h => ⟨congrArg (fun g : GSem nD τ sig => g.1.1) h, by
    have h2 : SemLoc.dma (rcvS r) = SemLoc.dma (rcvS s) := congrArg Prod.snd h
    clear h; revert r s; decide⟩, fun ⟨h, h'⟩ => by rw [h, h']⟩
theorem bar_ne_rcv (a b : Dev nD) (r : Fin 3) : (barC a = rcvC b r) = False := eq_false fun h => by
  have h2 : SemLoc.reg barS = SemLoc.dma (rcvS r) := congrArg Prod.snd h
  cases h2
theorem rcv_ne_bar (a b : Dev nD) (r : Fin 3) : (rcvC b r = barC a) = False := (propext eq_comm).trans (bar_ne_rcv a b r)

theorem bar_from (c d : Dev nD) (k : Fin 3) : c = peer d k ↔ d = peer c (back k) := by revert c d k; decide
theorem rcv_from (c d : Dev nD) (r k : Fin 3) : (c = peer d k ∧ r = back k) ↔ (d = peer c r ∧ k = back r) := by revert c d r k; decide

/-- What device `d` owes a barrier: one signal if it is another device's. -/
theorem owes_bar (d c : Dev nD) : owed₀ d (barC c) () = (if d = peer c 0 then 1 else 0) + (if d = peer c 1 then 1 else 0) + (if d = peer c 2 then 1 else 0) := by
  unfold owed₀ owedR
  simp only [Pi.add_apply, Finsupp.add_apply, tallyAt_apply, bar_ne_rcv, barC_inj, and_true, Nat.zero_add, if_false,
    bar_from c d 0, bar_from c d 1, bar_from c d 2]
  rfl

/-- What device `d` owes an incoming semaphore: one block if that is where its block goes. -/
theorem owes_rcv (d c : Dev nD) (r : Fin 3) : owed₀ d (rcvC c r) () = if d = peer c r then N else 0 := by
  unfold owed₀ owedR
  simp only [Pi.add_apply, Finsupp.add_apply, tallyAt_apply, rcv_ne_bar, rcvC_inj, and_true, Nat.add_zero, if_false,
    rcv_from c d r 0, rcv_from c d r 1, rcv_from c d r 2]
  generalize N = n
  by_cases h : d = peer c r
  · rw [if_pos h]
    simp only [h, _root_.true_and]
    fin_cases r <;> simp [back]
  · rw [if_neg h, if_neg (fun h' => h h'.1), if_neg (fun h' => h h'.1), if_neg (fun h' => h h'.1)]

theorem launch_bar (c : Dev nD) :
    tallyOn (barC c) (launchCredit (Pipeline.owing owed₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib, Finset.sum_add_distrib]
  simp only [Finset.sum_ite_eq', Finset.mem_univ, if_true]

theorem launch_rcv (c : Dev nD) (r : Fin 3) :
    tallyOn (rcvC c r) (launchCredit (Pipeline.owing owed₀) 0 (rcvC c r)) = (tallyAt (rcvC c r) () N : CellTallies nD τ sig Unit) := by
  unfold tallyAt; refine congrArg _ (Finsupp.ext fun u => ?_); cases u
  rw [Pipeline.launchCredit_owing, Finsupp.single_eq_same, Finset.sum_congr rfl fun d _ => owes_rcv d c r]
  simp only [Finset.sum_ite_eq', Finset.mem_univ, if_true]

/-- The semaphores of a device that others pay. -/
abbrev paidSem : Fin 4 → SemLoc sig := fun
  | 0 => .reg barS | 1 => .dma (rcvS 0) | 2 => .dma (rcvS 1) | 3 => .dma (rcvS 2)
theorem paidSem_injective : Function.Injective paidSem := by decide

theorem credits (c : Dev nD) :
    (Pipeline.launchCred owed₀ c : sProp 𝕄)
      ⊢ iprop(cred (tallyAt (barC c) () 3) ∗ bigSep Finset.univ fun r : Fin 3 => cred (tallyAt (rcvC c r) () N)) := by
  unfold Pipeline.launchCred
  refine (BI.bigSep_subset (Finset.subset_univ (Finset.univ.map ⟨paidSem, paidSem_injective⟩))).trans ?_
  rw [bigSep_map, bigSep_univ_eq_bigSepL [0, 1, 2, 3] (by decide) (by decide), three, ← launch_bar, ← launch_rcv, ← launch_rcv, ← launch_rcv]
  exact BI.Entails.refl _

/-! ## The run -/

theorem ownSemFacts : Pipeline.OwnSemFacts cfg0.spec ownSem := by decide

theorem share_full (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ dealt m c)
      ⊢ |={Set.univ}=> iprop(start m c ∗ emp) := by
  iintro ⟨-, Hlev, Hcr, -, HG⟩
  ihave Hc := (credits (F := F) c) $$ Hcr
  icases Hc with ⟨HB, HR⟩
  imodintro
  unfold start dealt
  isplitl
  · isplitl [HG]; · iexact HG
    isplitl [HB]; · iexact HB
    isplitl [HR] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = Φ₁ c from rfl, scopedRest0_eq]
  unfold Φ₁ scratch
  rw [counters_eq]
  iintro ⟨Hr, HB, Hz⟩
  isplitl [HB]; · iexact HB
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

set_option maxRecDepth 8000 in
/-- For any float values, from any memory with zero counters: every fair run of the four devices ends, nothing faulting,
    with every window's array at what the pipeline makes of it and every counter at zero. -/
theorem run_windows : θ_run defs (onTc (τ := τ) (main (F := F))) (s₀ m ρ)
    (fun r => (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := owed₀) (howed₀ := fun _ => rfl) (howedN := fun _ => rfl)
    (L := L) (lv := lv) (hL := L_off) (hwaits := waits m)
    (G := minted m) (G' := dealt m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := settle m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- What a run leaves on device `c`: the result, the operands as launched. -/
def Ended (c : Dev nD) (r : MemSt nD τ sig (Elt F)) : Prop :=
  r.mem ((c.tc : Thread nD τ).loc main_v1) = outAt m c
  ∧ r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)

/-- The result window covers its array, so the array ends at what the body wrote. -/
theorem result_whole (c : Dev nD) : (dats m 0 c).arrAt (5 : Fin 6) cfg0.N = outAt m c := by
  refine (dats m 0 c).arrAt_eq_of_after_last (5 : Fin 6) t0_0 (by decide +kernel) _ fun j => ?_
  rfl

/-- The kernel's run, read at its six arrays. -/
theorem run_main : θ_run defs (onTc (τ := τ) (main (F := F))) (s₀ m ρ) (fun r => (∀ c : Dev nD, Ended m c r.2) ∧ r.2.sem = fun _ => 0) :=
  (θ_run defs _ _).mono (fun _ h => ⟨fun c => ⟨(h.1 c (5 : Fin 6)).trans (result_whole m c),
    (h.1 c (0 : Fin 6)).trans ((dats m 0 c).arrAt_in (0 : Fin 6) rfl _), (h.1 c (1 : Fin 6)).trans ((dats m 0 c).arrAt_in (1 : Fin 6) rfl _),
    (h.1 c (2 : Fin 6)).trans ((dats m 0 c).arrAt_in (2 : Fin 6) rfl _), (h.1 c (3 : Fin 6)).trans ((dats m 0 c).arrAt_in (3 : Fin 6) rfl _),
    (h.1 c (4 : Fin 6)).trans ((dats m 0 c).arrAt_in (4 : Fin 6) rfl _)⟩, h.2⟩) (run_windows m ρ)

end Cert.Exchange

end
-- ==== Proof.Frames.lean ====
/-
# The frames

Every run of each program ends, faults nowhere, leaves its arguments as they were and every semaphore at zero. The two
kernels are one text, so the first two are one run read at two kinds of float. The reference has no semaphore to leave.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 16384

noncomputable section

namespace Cert.Proof

open Idealize.ShloMosaic Idealize.SL.Sem

/-- The two printed body tables are one: they list the same single body. -/
theorem tables_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l with
  | 0 => rfl

theorem defs_eq {F : FTy → Type} [FloatOps F] : (Cert.Kernel.defs (F := F)) = (Cert.KernelIdeal.defs (F := F)) := by
  unfold Cert.Kernel.defs Cert.KernelIdeal.defs
  exact congrArg _ tables_eq

/-- The kernel over bit-exact floats. -/
theorem frame_kernel : Cert.quiescent_Kernel := by
  intro m ρ _
  rw [defs_eq]
  exact (θ_run Cert.KernelIdeal.defs _ _).mono (fun _ h => ⟨fun c => (h.1 c).2, h.2⟩) (Cert.Exchange.run_main (F := Bits) m ρ)

/-- The kernel over extended reals. -/
theorem frame_kernelIdeal : Cert.quiescent_KernelIdeal := fun m ρ _ =>
  (θ_run Cert.KernelIdeal.defs _ _).mono (fun _ h => ⟨fun c => (h.1 c).2, h.2⟩) (Cert.Exchange.run_main (F := Ideal) m ρ)

/-- The reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Mixture.lean ====
/-
# The mixture of experts, as plain mathematics

No program here. Every token has sixteen scores, turned into probabilities by a softmax, and a word naming its expert.
Its result is that expert's probability times the token through that expert's matrix: `routed`. Four devices each hold
four experts and compute `part`: for each held expert, the token scaled by the probability where the word names the
expert and by zero elsewhere, through that expert's matrix. `sum_part` says the four parts add up to `routed`, provided the
tokens and the router weights are finite.
-/
module

public import Idealize.ShloMosaic.PureOps
public import Idealize.ShloMosaic.PureOps.Ideal.Laws
public import Idealize.ShloMosaic.Lib.IdealHost

@[expose] public section

set_option maxRecDepth 16384

noncomputable section

namespace Cert.Mixture

open Idealize.ShloMosaic

/-! ## Sums of extended reals -/

/-- A nonnegative factor other than `⊤` goes into a sum. -/
theorem mul_sum_of_nonneg {ι : Type} (s : Finset ι) (p : EReal) (h0 : 0 ≤ p) (h1 : p ≠ ⊤) (f : ι → EReal) :
    p * ∑ i ∈ s, f i = ∑ i ∈ s, p * f i := by
  classical
  induction s using Finset.induction_on with
  | empty => simp
  | insert a s ha ih => rw [Finset.sum_insert ha, Finset.sum_insert ha, EReal.left_distrib_of_nonneg_of_ne_top h0 h1, ih]

/-- A sum of reals is a real. -/
theorem sum_real {ι : Type} (s : Finset ι) (f : ι → EReal) (h : ∀ i, ∃ r : ℝ, f i = (r : EReal)) :
    ∃ r : ℝ, ∑ i ∈ s, f i = (r : EReal) := by
  choose g hg using h
  refine ⟨∑ i ∈ s, g i, ?_⟩
  simp only [hg]
  exact (map_sum (⟨⟨Real.toEReal, EReal.coe_zero⟩, EReal.coe_add⟩ : ℝ →+ EReal) g s).symm

/-- A nonempty sum of positive reals is a positive real. -/
theorem sum_pos_real {ι : Type} [Fintype ι] [Nonempty ι] (f : ι → EReal) (h : ∀ i, ∃ r : ℝ, 0 < r ∧ f i = (r : EReal)) :
    ∃ r : ℝ, 0 < r ∧ ∑ i, f i = (r : EReal) := by
  choose g hpos hg using h
  refine ⟨∑ i, g i, Finset.sum_pos (fun i _ => hpos i) Finset.univ_nonempty, ?_⟩
  simp only [hg]
  exact (map_sum (⟨⟨Real.toEReal, EReal.coe_zero⟩, EReal.coe_add⟩ : ℝ →+ EReal) g Finset.univ).symm

/-- Sixteen experts are four on each of four devices. -/
theorem sum_four_four (f : ℕ → EReal) : ∑ d : Fin 4, ∑ j : Fin 4, f (4 * d.val + j.val) = ∑ e : Fin 16, f e.val := by
  simp [Fin.sum_univ_succ]
  ac_rfl

/-! ## The softmax -/

variable (X : Fin 512 → Fin 256 → EReal) (R : Fin 256 → Fin 16 → EReal) (I : Fin 512 → BitVec 32)

/-- The score of expert `e` for token `n`. -/
def score (n : Fin 512) (e : Fin 16) : EReal := ∑ k, X n k * R k e
/-- The largest score of token `n`. -/
def top (n : Fin 512) : EReal := Finset.univ.fold max (Ideal.ofBits .f32 0xFF800000#32) fun e => score X R n e
/-- The exponential of the score less the largest. -/
def num (n : Fin 512) (e : Fin 16) : EReal := Ideal.exp (score X R n e - top X R n)
/-- The sum of the exponentials. -/
def den (n : Fin 512) : EReal := ∑ e, num X R n e
/-- The probability of expert `e` for token `n`. -/
def prob (n : Fin 512) (e : Fin 16) : EReal := Ideal.div (num X R n e) (den X R n)

/-- Tokens and router weights are real numbers. -/
def Finite : Prop := (∀ n k, ∃ r : ℝ, X n k = (r : EReal)) ∧ ∀ k e, ∃ r : ℝ, R k e = (r : EReal)

variable {X R}

theorem score_real (h : Finite X R) (n : Fin 512) (e : Fin 16) : ∃ r : ℝ, score X R n e = (r : EReal) :=
  sum_real _ _ fun k => by
    obtain ⟨a, ha⟩ := h.1 n k
    obtain ⟨b, hb⟩ := h.2 k e
    exact ⟨a * b, by rw [ha, hb, EReal.coe_mul]⟩

theorem top_real (h : Finite X R) (n : Fin 512) : ∃ r : ℝ, top X R n = (r : EReal) := by
  have hbot : Ideal.ofBits .f32 0xFF800000#32 = (⊥ : EReal) := by simp [Ideal.ofBits, Ideal.ieee]
  have hlt : top X R n < ⊤ := by
    refine (Finset.fold_max_lt _).mpr ⟨by rw [hbot]; exact bot_lt_top, fun e _ => ?_⟩
    obtain ⟨r, hr⟩ := score_real h n e
    rw [hr]; exact EReal.coe_lt_top r
  have hgt : ⊥ < top X R n := by
    refine (Finset.lt_fold_max _).mpr (Or.inr ⟨0, Finset.mem_univ _, ?_⟩)
    obtain ⟨r, hr⟩ := score_real h n 0
    rw [hr]; exact EReal.bot_lt_coe r
  exact ⟨(top X R n).toReal, (EReal.coe_toReal hlt.ne hgt.ne').symm⟩

theorem num_real (h : Finite X R) (n : Fin 512) (e : Fin 16) : ∃ r : ℝ, 0 < r ∧ num X R n e = (r : EReal) := by
  obtain ⟨a, ha⟩ := score_real h n e
  obtain ⟨b, hb⟩ := top_real h n
  exact ⟨Real.exp (a - b), Real.exp_pos _, by rw [num, ha, hb, ← EReal.coe_sub]; rfl⟩

/-- A probability is a nonnegative real. -/
theorem prob_real (h : Finite X R) (n : Fin 512) (e : Fin 16) : ∃ r : ℝ, 0 ≤ r ∧ prob X R n e = (r : EReal) := by
  obtain ⟨a, ha, ea⟩ := num_real h n e
  obtain ⟨b, hb, eb⟩ := sum_pos_real _ fun e => num_real h n e
  refine ⟨a * (1 / b), by positivity, ?_⟩
  rw [prob, ea, den, eb, Ideal.div_coe hb.ne', EReal.coe_mul]

/-! ## The routed sum, whole and in parts -/

variable (X R)
variable (W : Fin 16 → Fin 256 → Fin 512 → EReal)

/-- Token `n` through expert `e`. -/
def through (n : Fin 512) (e : Fin 16) (h : Fin 512) : EReal := ∑ k, X n k * W e k h

/-- What the experts contribute: the named expert's probability times the token through it; nothing if the word names
    none of the sixteen. -/
def routed (n h : Fin 512) : EReal := ∑ e : Fin 16, if BitVec.ofNat 32 e.val = I n then prob X R n e * through X W n e h else 0

/-- The probability a device finds for the named expert, as a sum over all sixteen with zero off the match. -/
def pick (n : Fin 512) : EReal := ∑ e : Fin 16, if BitVec.ofNat 32 e.val = I n then prob X R n e else 0

/-- One expert's share as a device computes it: the token is scaled before it goes through the matrix. -/
def share (n : Fin 512) (e : Fin 16) (h : Fin 512) : EReal :=
  ∑ k, if I n = BitVec.ofNat 32 e.val then pick X R I n * X n k * W e k h else 0

/-- The expert in place `j` of device `d`. -/
def expert (d j : Fin 4) : Fin 16 := ⟨4 * d.val + j.val, by omega⟩

/-- The four shares of device `d`. -/
def part (d : Fin 4) (n h : Fin 512) : EReal := ∑ j : Fin 4, share X R I W n (expert d j) h

variable {X R}

theorem ofNat_inj {a b : Fin 16} (h : BitVec.ofNat 32 a.val = BitVec.ofNat 32 b.val) : a = b := by
  have := congrArg BitVec.toNat h
  simp only [BitVec.toNat_ofNat] at this
  omega

/-- If the word names `e`, the probability found is that of `e`. -/
theorem pick_eq (n : Fin 512) (e : Fin 16) (h : BitVec.ofNat 32 e.val = I n) : pick X R I n = prob X R n e := by
  refine (Finset.sum_eq_single e (fun b _ hb => if_neg fun hb' => hb (ofNat_inj (hb'.trans h.symm))) (by simp)).trans ?_
  exact if_pos h

/-- If the word names `e`, only `e` contributes. -/
theorem routed_eq (n h : Fin 512) (e : Fin 16) (he : BitVec.ofNat 32 e.val = I n) :
    routed X R I W n h = prob X R n e * through X W n e h := by
  refine (Finset.sum_eq_single e (fun b _ hb => if_neg fun hb' => hb (ofNat_inj (hb'.trans he.symm))) (by simp)).trans ?_
  exact if_pos he

/-- If the word names none of the sixteen, nothing is contributed. -/
theorem routed_none (n h : Fin 512) (he : ∀ e : Fin 16, BitVec.ofNat 32 e.val ≠ I n) : routed X R I W n h = 0 :=
  Finset.sum_eq_zero fun e _ => if_neg (he e)

/-- A share is the probability times the token through the expert, where the word names it. -/
theorem share_eq (hf : Finite X R) (n : Fin 512) (e : Fin 16) (h : Fin 512) :
    share X R I W n e h = if BitVec.ofNat 32 e.val = I n then prob X R n e * through X W n e h else 0 := by
  by_cases he : BitVec.ofNat 32 e.val = I n
  · obtain ⟨p, hp, ep⟩ := prob_real hf n e
    rw [if_pos he, share, through, ep, mul_sum_of_nonneg _ _ (EReal.coe_nonneg.mpr hp) (EReal.coe_ne_top p)]
    refine Finset.sum_congr rfl fun k _ => ?_
    rw [if_pos he.symm, pick_eq I n e he, ep, mul_assoc]
  · rw [if_neg he, share]
    exact Finset.sum_eq_zero fun k _ => if_neg fun h => he h.symm

/-- **The four devices' parts add up to what the experts contribute.** -/
theorem sum_part (hf : Finite X R) (n h : Fin 512) : ∑ d : Fin 4, part X R I W d n h = routed X R I W n h := by
  have := sum_four_four fun e => if he : e < 16 then share X R I W n ⟨e, he⟩ h else 0
  simp only [Fin.is_lt, dif_pos, Fin.eta] at this
  rw [routed]
  refine Eq.trans ?_ (this.trans (Finset.sum_congr rfl fun e _ => share_eq I W hf n e h))
  refine Finset.sum_congr rfl fun d _ => Finset.sum_congr rfl fun j _ => ?_
  rw [dif_pos (show 4 * d.val + j.val < 16 by omega)]
  rfl

end Cert.Mixture

end
-- ==== Proof.KernelValue.lean ====
/-
# The kernel's result at the ideal values, coordinate by coordinate

Each buffer of the kernel read at one index, over the extended reals: the softmax, the probability picked, the four shares
added up, the block sent to each device, the block a device keeps, and the finished rows as the shared product plus the
four devices' parts.
-/
module

public import proofs.«01_k».proof.Proof.Contents
public import proofs.«01_k».proof.Proof.Mixture
public import Idealize.ShloMosaic.Lib.Pointwise

@[expose] public section

set_option maxRecDepth 16384

noncomputable section

namespace Cert.Exchange

open Cert.KernelIdeal Cert.KernelIdeal.Gen
open Idealize.ShloMosaic
open Idealize.ShloMosaic.TcCoe
open Cert.Mixture

/-! ## One operation group at a time -/

/-- A selection on an equality of words. -/
theorem select_eq {α : Type} (a b : BitVec 32) (x y : α) :
    Scalar.select (IntOp.cmpi .eq a b) x y = if a = b then x else y := by
  by_cases h : a = b
  · subst h
    rw [if_pos rfl]
    simp [Scalar.select, IntOp.cmpi]
  · rw [if_neg h]
    simp [Scalar.select, IntOp.cmpi, beq_eq_false_iff_ne.mpr h]

section Groups

variable (x : FVec Ideal S512x256 .bf16) (rt : FVec Ideal S256x16 .bf16) (id : IVec S512x1 32)
variable (X : Fin 512 → Fin 256 → EReal) (R : Fin 256 → Fin 16 → EReal) (I : Fin 512 → BitVec 32)
variable (hx : ∀ n k, x (ix2 n k) = X n k) (hr : ∀ k e, rt (ix2 k e) = R k e) (hi : ∀ n, id (ix2 n 0) = I n)

/-- The tokens go through one shape-preserving reshape. -/
theorem pay2_self : k0_pay2 (F := Ideal) x = x := by
  funext j
  idx_vars j
  pointwise [k0_pay2]

include hx hr in
/-- The exponentials. -/
theorem pay3_at (n : Fin 512) (e : Fin 16) : k0_pay3 (F := Ideal) x rt (ix2 n e) = num X R n e := by
  pointwise [k0_pay3, k0_pay2]
  simp only [hx, hr]
  rfl

include hx hr in
/-- Their sum, the same in every column. -/
theorem pay4_at (n : Fin 512) (e : Fin 16) : k0_pay4 (F := Ideal) x rt (ix2 n e) = den X R n := by
  pointwise [k0_pay4]
  simp only [pay3_at x rt X R hx hr]
  rfl

include hx hr hi in
/-- The probability of the named expert. -/
theorem pay6_at (n : Fin 512) :
    k0_pay6 (F := Ideal) (k0_pay3 x rt) (k0_pay4 x rt) id (ix2 n 0) = pick X R I n := by
  pointwise [k0_pay6, k0_pay5]
  simp only [pay3_at x rt X R hx hr, pay4_at x rt X R hx hr, hi, select_eq]
  rfl

include hx hr hi in
/-- The device's four shares, added up in order. -/
theorem pay10_at (w : BitVec 32) (w0 w1 w2 w3 : Vec Ideal S1x256x512 .bf16) (n h : Fin 512) :
    k0_pay10 (F := Ideal) (k0_pay2 x) (k0_pay5 (F := Ideal) id) (k0_pay6 (k0_pay3 x rt) (k0_pay4 x rt) id) (Scalar.muli w 4#32)
        (k0_pay7 w (k0_pay2 x) (k0_pay3 x rt) (k0_pay4 x rt) id w0 w1) (k0_pay8 (F := Ideal) w id) w2 w3 (ix2 n h)
      = (∑ k, if I n = Scalar.addi (Scalar.muli w 4#32) 0#32 then pick X R I n * X n k * w0 (ix3 0 k h) else 0)
        + (∑ k, if I n = Scalar.addi (Scalar.muli w 4#32) 1#32 then pick X R I n * X n k * w1 (ix3 0 k h) else 0)
        + (∑ k, if I n = Scalar.addi (Scalar.muli w 4#32) 2#32 then pick X R I n * X n k * w2 (ix3 0 k h) else 0)
        + ∑ k, if I n = Scalar.addi (Scalar.muli w 4#32) 3#32 then pick X R I n * X n k * w3 (ix3 0 k h) else 0 := by
  rw [pay2_self x]
  have h7 : k0_pay7 (F := Ideal) w x (k0_pay3 x rt) (k0_pay4 x rt) id w0 w1 (ix2 n h)
      = (∑ k, if I n = Scalar.addi (Scalar.muli w 4#32) 0#32 then pick X R I n * X n k * w0 (ix3 0 k h) else 0)
        + ∑ k, if I n = Scalar.addi (Scalar.muli w 4#32) 1#32 then pick X R I n * X n k * w1 (ix3 0 k h) else 0 := by
    pointwise [k0_pay7, k0_pay5]
    simp only [pay6_at x rt id X R I hx hr hi, hx, hi, select_eq]
  pointwise [k0_pay10, k0_pay9, k0_pay8, k0_pay5]
  simp only [pay6_at x rt id X R I hx hr hi, hx, hi, select_eq, h7]

end Groups

/-! ## The inputs as staged, and the loads -/

/-- Row `i` of device `c`'s quarter of the 512 tokens. -/
def tok (c : Fin 4) (i : Fin 128) : Fin 512 := ⟨128 * c.val + i.val, by omega⟩

section Loads

variable (m : (ℓ : Loc nD τ sig) → Buf (Elt Ideal) ℓ) (c : Dev nD)

theorem xIn_at (n : Fin 512) (k : Fin 256) : xIn m c (ix2 n k) = m ((c : Thread nD τ).loc main_arg0) (ix2 n k) := by
  show m ((c : Thread nD τ).loc main_arg0) ((win0_0.blk (0 : Fin 1)).view.emb (ix2 n k)) = _
  refine congrArg _ ?_
  funext a; apply Fin.ext
  match a with
  | 0 => change 0 + 1 * n.val = n.val; omega
  | 1 => change 0 + 1 * k.val = k.val; omega
theorem rtIn_at (k : Fin 256) (e : Fin 16) : rtIn m c (ix2 k e) = m ((c : Thread nD τ).loc main_arg1) (ix2 k e) := by
  show m ((c : Thread nD τ).loc main_arg1) ((win0_1.blk (0 : Fin 1)).view.emb (ix2 k e)) = _
  refine congrArg _ ?_
  funext a; apply Fin.ext
  match a with
  | 0 => change 0 + 1 * k.val = k.val; omega
  | 1 => change 0 + 1 * e.val = e.val; omega
theorem idIn_at (n : Fin 512) (o : Fin 1) : idIn m c (ix2 n o) = m ((c : Thread nD τ).loc main_arg2) (ix2 n o) := by
  show m ((c : Thread nD τ).loc main_arg2) ((win0_2.blk (0 : Fin 1)).view.emb (ix2 n o)) = _
  refine congrArg _ ?_
  funext a; apply Fin.ext
  match a with
  | 0 => change 0 + 1 * n.val = n.val; omega
  | 1 => change 0 + 1 * o.val = o.val; omega
theorem exIn_at (j : Fin 4) (k : Fin 256) (h : Fin 512) :
    exIn m c (ix3 j k h) = m ((c : Thread nD τ).loc main_arg3) (ix3 j k h) := by
  show m ((c : Thread nD τ).loc main_arg3) ((win0_3.blk (0 : Fin 1)).view.emb (ix3 j k h)) = _
  refine congrArg _ ?_
  funext a; apply Fin.ext
  match a with
  | 0 => change 0 + 1 * j.val = j.val; omega
  | 1 => change 0 + 1 * k.val = k.val; omega
  | 2 => change 0 + 1 * h.val = h.val; omega
theorem shIn_at (k : Fin 256) (h : Fin 512) : shIn m c (ix2 k h) = m ((c : Thread nD τ).loc main_arg4) (ix2 k h) := by
  show m ((c : Thread nD τ).loc main_arg4) ((win0_4.blk (0 : Fin 1)).view.emb (ix2 k h)) = _
  refine congrArg _ ?_
  funext a; apply Fin.ext
  match a with
  | 0 => change 0 + 1 * k.val = k.val; omega
  | 1 => change 0 + 1 * h.val = h.val; omega

/-- Expert `j` as loaded. -/
theorem exRow_at (j : Fin 4) (k : Fin 256) (h : Fin 512) : exRow m c j (ix3 0 k h) = exIn m c (ix3 j k h) := by
  show exIn m c ((expertR j).emb (ix3 0 k h)) = _
  refine congrArg _ ?_
  funext a; apply Fin.ext
  match a with
  | 0 => change j.val + 1 * 0 = j.val; omega
  | 1 => change 0 + 1 * k.val = k.val; omega
  | 2 => change 0 + 1 * h.val = h.val; omega

/-- The device's own rows start at 128 times its number. -/
theorem rows_start : ∀ c : Dev nD, k0_off3 c 0 = 128 * c.val ∧ k0_off3 c 1 = 0 := by decide
theorem toks_start : ∀ c : Dev nD, k0_off2 c 0 = 128 * c.val ∧ k0_off2 c 1 = 0 := by decide

/-- The device's own rows of its own partial sums. -/
theorem mine_at (i : Fin 128) (h : Fin 512) : mine m c (ix2 i h) = vAcc m c (ix2 (tok c i) h) := by
  show vAcc m c ((rowsR c).emb (ix2 i h)) = _
  refine congrArg _ ?_
  funext a; apply Fin.ext
  match a with
  | 0 => change k0_off3 c 0 + 1 * i.val = 128 * c.val + i.val; rw [(rows_start c).1]; omega
  | 1 => change k0_off3 c 1 + 1 * h.val = h.val; rw [(rows_start c).2]; omega

/-- The shared product of the device's own tokens. -/
theorem vShared_at (X : Fin 512 → Fin 256 → EReal) (S : Fin 256 → Fin 512 → EReal) (hx : ∀ n k, xIn m c (ix2 n k) = X n k)
    (hs : ∀ k h, shIn m c (ix2 k h) = S k h) (i : Fin 128) (h : Fin 512) :
    vShared m c (ix2 i h) = ∑ k, X (tok c i) k * S k h := by
  have hld : ∀ k : Fin 256, (xM.view.readAt (Elt Ideal) (tokR c).toLoadRect (xIn m c) : FVec Ideal S128x256 .bf16) (ix2 i k) = X (tok c i) k := by
    intro k
    rw [← hx]
    show xIn m c ((tokR c).emb (ix2 i k)) = _
    refine congrArg _ ?_
    funext a; apply Fin.ext
    match a with
    | 0 => change k0_off2 c 0 + 1 * i.val = 128 * c.val + i.val; rw [(toks_start c).1]; omega
    | 1 => change k0_off2 c 1 + 1 * k.val = k.val; rw [(toks_start c).2]; omega
  have hp : ∀ (a : FVec Ideal S128x256 .bf16) (s : FVec Ideal S256x512 .bf16),
      k0_pay17 (F := Ideal) a s (ix2 i h) = ∑ k, a (ix2 i k) * s (ix2 k h) := by
    intro a s
    pointwise [k0_pay17]
  exact (hp _ _).trans (Finset.sum_congr rfl fun k _ => congrArg₂ (· * ·) (hld k) (hs k h))

/-- Block `j` of the outgoing buffer holds the partial sums of device `j`'s tokens. -/
theorem vBlock_at (j : Fin 4) (i : Fin 128) (h : Fin 512) : vBlock m c j (ix3 0 i h) = vAcc m c (ix2 (tok j i) h) := by
  match j with
  | 0 =>
    unfold vBlock vAcc
    pointwise [k0_pay12, k0_pay11, k0_pay10]
    exact congrArg (fun r : Fin 512 => k0_pay9 (F := Ideal) _ _ _ _ _ _ _ _ (ix2 r h)) (Fin.ext (by simp only [tok]; omega))
  | 1 =>
    unfold vBlock vAcc
    pointwise [k0_pay13, k0_pay11, k0_pay10]
    exact congrArg (fun r : Fin 512 => k0_pay9 (F := Ideal) _ _ _ _ _ _ _ _ (ix2 r h)) (Fin.ext (by simp only [tok]; omega))
  | 2 =>
    unfold vBlock vAcc vThird
    pointwise [k0_pay15, k0_pay14, k0_pay11, k0_pay10]
    exact congrArg (fun r : Fin 512 => k0_pay9 (F := Ideal) _ _ _ _ _ _ _ _ (ix2 r h)) (Fin.ext (by simp only [tok]; omega))
  | 3 =>
    unfold vBlock vAcc vAcc16
    pointwise [k0_pay16, k0_pay11, k0_pay10]
    exact congrArg (fun r : Fin 512 => k0_pay9 (F := Ideal) _ _ _ _ _ _ _ _ (ix2 r h)) (Fin.ext (by simp only [tok]; omega))

/-- What arrived in slot `r`: the partial sums another device found for this device's tokens. -/
theorem got_at (r : Fin 3) (i : Fin 128) (h : Fin 512) : got m c r (ix3 0 i h) = vAcc m (peer c r) (ix2 (tok c i) h) := by
  refine Eq.trans ?_ (vBlock_at m (peer c r) c i h)
  show inBuf m c ((slotR r).emb (ix3 0 i h)) = _
  have : (slotR r).emb (ix3 0 i h) = (ix3 r i h : S3x128x512.Idx) := by
    funext a; apply Fin.ext
    match a with
    | 0 => change r.val + 1 * 0 = r.val; omega
    | 1 => change 0 + 1 * i.val = i.val; omega
    | 2 => change 0 + 1 * h.val = h.val; omega
  rw [this]
  rfl

end Loads

/-! ## The finished rows -/

/-- Device `c`'s arguments are these arrays, its four experts among the sixteen being `4 c`, …, `4 c + 3`. -/
structure Holds (m : (ℓ : Loc nD τ sig) → Buf (Elt Ideal) ℓ) (c : Dev nD) (X : Fin 512 → Fin 256 → EReal)
    (R : Fin 256 → Fin 16 → EReal) (I : Fin 512 → BitVec 32) (W : Fin 16 → Fin 256 → Fin 512 → EReal)
    (S : Fin 256 → Fin 512 → EReal) : Prop where
  tokens : ∀ n k, m ((c : Thread nD τ).loc main_arg0) (ix2 n k) = X n k
  router : ∀ k e, m ((c : Thread nD τ).loc main_arg1) (ix2 k e) = R k e
  named : ∀ n, m ((c : Thread nD τ).loc main_arg2) (ix2 n (0 : Fin 1)) = I n
  experts : ∀ (j : Fin 4) k h, m ((c : Thread nD τ).loc main_arg3) (ix3 j k h) = W (expert c j) k h
  shared : ∀ k h, m ((c : Thread nD τ).loc main_arg4) (ix2 k h) = S k h

/-- The number of a device's expert as the kernel computes it. -/
theorem word_expert : ∀ c : Dev nD,
    Scalar.addi (wrd4 c) 0#32 = BitVec.ofNat 32 (expert c 0).val ∧ Scalar.addi (wrd4 c) 1#32 = BitVec.ofNat 32 (expert c 1).val
    ∧ Scalar.addi (wrd4 c) 2#32 = BitVec.ofNat 32 (expert c 2).val ∧ Scalar.addi (wrd4 c) 3#32 = BitVec.ofNat 32 (expert c 3).val := by
  decide

/-- A device and the three it hears from are all four. -/
theorem own_and_peers (c : Dev nD) (f : Fin 4 → EReal) : f c + f (peer c 0) + f (peer c 1) + f (peer c 2) = f 0 + f 1 + f 2 + f 3 := by
  match c with
  | 0 => rfl
  | 1 => change f 1 + f 2 + f 3 + f 0 = _; ac_rfl
  | 2 => change f 2 + f 3 + f 0 + f 1 = _; ac_rfl
  | 3 => change f 3 + f 0 + f 1 + f 2 = _; ac_rfl

section Finished

variable {m : (ℓ : Loc nD τ sig) → Buf (Elt Ideal) ℓ} {X : Fin 512 → Fin 256 → EReal} {R : Fin 256 → Fin 16 → EReal}
variable {I : Fin 512 → BitVec 32} {W : Fin 16 → Fin 256 → Fin 512 → EReal} {S : Fin 256 → Fin 512 → EReal}

/-- A device's partial sums are its part of the routed sum. -/
theorem vAcc_at {c : Dev nD} (hc : Holds m c X R I W S) (n h : Fin 512) : vAcc m c (ix2 n h) = part X R I W c n h := by
  have key := pay10_at (xIn m c) (rtIn m c) (idIn m c) X R I (fun n k => (xIn_at m c n k).trans (hc.tokens n k))
    (fun k e => (rtIn_at m c k e).trans (hc.router k e)) (fun n => (idIn_at m c n 0).trans (hc.named n)) (wrd c)
    (exRow m c 0) (exRow m c 1) (exRow m c 2) (exRow m c 3) n h
  have hw : ∀ (j : Fin 4) (k : Fin 256), exRow m c j (ix3 0 k h) = W (expert c j) k h := fun j k =>
    (exRow_at m c j k h).trans ((exIn_at m c j k h).trans (hc.experts j k h))
  obtain ⟨w0, w1, w2, w3⟩ := word_expert c
  refine Eq.trans key ?_
  rw [part, Fin.sum_univ_four]
  unfold share
  rw [show Scalar.muli (wrd c) 4#32 = wrd4 c from rfl, w0, w1, w2, w3]
  simp only [hw]

/-- **The finished rows of device `c`**: for its `i`-th token, the shared product plus what the experts contribute. -/
theorem outAt_at (hall : ∀ c, Holds m c X R I W S) (hf : Finite X R) (c : Dev nD) (i : Fin 128) (h : Fin 512) :
    outAt m c (ix2 i h) = (∑ k, X (tok c i) k * S k h) + routed X R I W (tok c i) h := by
  have hp : ∀ (s a : FVec Ideal S128x512 .f32) (g0 g1 g2 : FVec Ideal S1x128x512 .bf16),
      k0_pay1 (F := Ideal) (k0_pay18 s a g0 g1) (k0_pay19 g2) (ix2 i h)
        = a (ix2 i h) + s (ix2 i h) + g0 (ix3 0 i h) + g1 (ix3 0 i h) + g2 (ix3 0 i h) := by
    intro s a g0 g1 g2
    pointwise [k0_pay1, k0_pay18, k0_pay19]
  refine (hp (vShared m c) (mine m c) (got m c 0) (got m c 1) (got m c 2)).trans ?_
  rw [got_at, got_at, got_at, mine_at,
    vShared_at m c X S (fun n k => (xIn_at m c n k).trans ((hall c).tokens n k)) (fun k h => (shIn_at m c k h).trans ((hall c).shared k h)),
    vAcc_at (hall _), vAcc_at (hall _), vAcc_at (hall _), vAcc_at (hall _), ← sum_part I W hf, Fin.sum_univ_four]
  rw [← own_and_peers c fun d => part X R I W d (tok c i) h]
  ac_rfl

end Finished

end Cert.Exchange

end
-- ==== Proof.ReferenceValue.lean ====
/-
# The reference's result at the ideal values, coordinate by coordinate

The reference picks each token's probability and its expert's matrix by indexing, an index out of range reading zero.
Its result at a token and a column is the shared product plus what the experts contribute.
-/
module

public import proofs.«01_k».proof.Proof.Gen.ReferenceIdeal.Run
public import proofs.«01_k».proof.Proof.Mixture
public import Idealize.ShloMosaic.Lib.Pointwise

@[expose] public section

set_option maxRecDepth 16384

noncomputable section

namespace Cert.Indexed

open Cert.ReferenceIdeal Cert.ReferenceIdeal.Gen
open Idealize.ShloMosaic
open Idealize.ShloMosaic.TcCoe
open Cert.Mixture

/-! ## Words -/

/-- A number below `2 ^ 31` read back signed from its word. -/
theorem toInt_small (a : ℕ) (ha : a < 2 ^ 31) : (BitVec.ofNat 32 a).toInt = a := by
  rw [BitVec.toInt_eq_toNat_cond, BitVec.toNat_ofNat]
  split <;> omega

/-- A word lies between 0 and 15, read signed, exactly when it is one of the sixteen numbers. -/
theorem in_range (w : BitVec 32) : (0 ≤ w.toInt ∧ w.toInt ≤ 15) ↔ ∃ e : Fin 16, BitVec.ofNat 32 e.val = w := by
  constructor
  · rintro ⟨h0, h1⟩
    refine ⟨⟨w.toInt.toNat, by omega⟩, ?_⟩
    apply BitVec.eq_of_toInt_eq
    rw [toInt_small _ (by simp only []; omega)]
    simp only []
    omega
  · rintro ⟨e, rfl⟩
    rw [toInt_small _ (by omega)]
    omega

/-! ## The two indexings -/

/-- Picking one entry of each row: where the pair names row `n` and column `e`, the entry there. -/
theorem pick_entry (x : FVec Ideal S512x16 .f32) (w : IVec S512x2 32) (n : Fin 512) (e : Fin 16)
    (h0 : w (ix2 n 0) = BitVec.ofNat 32 n.val) (h1 : w (ix2 n 1) = BitVec.ofNat 32 e.val) :
    Host.gather gather_S512x16_S512x2_S512_n_01_n_n_01_1_11 x w (ix1 n) = x (ix2 n e) := by
  refine congrArg x (funext fun a => Fin.ext ?_)
  have s0 : gather_S512x16_S512x2_S512_n_01_n_n_01_1_11.siIdx (ix1 n) ⟨0, by decide⟩ = ix2 n (0 : Fin 2) := by
    funext b; match b with | 0 => rfl | 1 => rfl
  have s1 : gather_S512x16_S512x2_S512_n_01_n_n_01_1_11.siIdx (ix1 n) ⟨1, by decide⟩ = ix2 n (1 : Fin 2) := by
    funext b; match b with | 0 => rfl | 1 => rfl
  match a with
  | 0 =>
    change min (w (gather_S512x16_S512x2_S512_n_01_n_n_01_1_11.siIdx (ix1 n) ⟨0, by decide⟩)).toInt.toNat 511 + 0 + 0 = n.val
    rw [s0, h0, toInt_small _ (by omega)]
    omega
  | 1 =>
    change min (w (gather_S512x16_S512x2_S512_n_01_n_n_01_1_11.siIdx (ix1 n) ⟨1, by decide⟩)).toInt.toNat 15 + 0 + 0 = e.val
    rw [s1, h1, toInt_small _ (by omega)]
    omega

/-- Picking one matrix for each token: where the word names expert `e`, that expert's. -/
theorem pick_matrix (x : FVec Ideal S16x256x512 .f32) (w : IVec S512x1 32) (n : Fin 512) (k : Fin 256) (h : Fin 512) (e : Fin 16)
    (h0 : w (ix2 n 0) = BitVec.ofNat 32 e.val) :
    Host.gather gather_S16x256x512_S512x1_S512x256x512_12_0_n_n_0_1_1256512 x w (ix3 n k h) = x (ix3 e k h) := by
  refine congrArg x (funext fun a => Fin.ext ?_)
  have s0 : gather_S16x256x512_S512x1_S512x256x512_12_0_n_n_0_1_1256512.siIdx (ix3 n k h) ⟨0, by decide⟩ = ix2 n (0 : Fin 1) := by
    funext b; match b with | 0 => rfl | 1 => rfl
  match a with
  | 0 =>
    change min (w (gather_S16x256x512_S512x1_S512x256x512_12_0_n_n_0_1_1256512.siIdx (ix3 n k h) ⟨0, by decide⟩)).toInt.toNat 15 + 0 + 0 = e.val
    rw [s0, h0, toInt_small _ (by omega)]
    omega
  | 1 => change 0 + 0 + k.val = k.val; omega
  | 2 => change 0 + 0 + h.val = h.val; omega

/-! ## The range checks -/

/-- A word checked to lie between 0 and a bound: one bit. -/
def within (b w : BitVec 32) : BitVec 1 := IntOp.andi (IntOp.cmpi .sge w 0#32) (IntOp.cmpi .sle w b)

theorem within_eq (b w : BitVec 32) : within b w = if 0 ≤ w.toInt ∧ w.toInt ≤ b.toInt then 1#1 else 0#1 := by
  unfold within IntOp.cmpi IntOp.andi
  simp only [BitVec.sle, BitVec.toInt_zero]
  by_cases h0 : 0 ≤ w.toInt <;> by_cases h1 : w.toInt ≤ b.toInt <;> simp [h0, h1]

theorem and_one : ∀ b : BitVec 1, IntOp.andi b 1#1 = b := by decide
theorem one_and : ∀ b : BitVec 1, IntOp.andi 1#1 b = b := by decide

theorem within_pos {w : BitVec 32} (h : ∃ e : Fin 16, BitVec.ofNat 32 e.val = w) : within 15#32 w = 1#1 := by
  rw [within_eq, show (15#32 : BitVec 32).toInt = 15 by decide, if_pos ((in_range w).mpr h)]
theorem within_neg {w : BitVec 32} (h : ¬ ∃ e : Fin 16, BitVec.ofNat 32 e.val = w) : within 15#32 w = 0#1 := by
  rw [within_eq, show (15#32 : BitVec 32).toInt = 15 by decide, if_neg fun h' => h ((in_range w).mp h')]
theorem within_row (n : Fin 512) : within 511#32 (BitVec.ofNat 32 n.val) = 1#1 := by
  rw [within_eq, toInt_small _ (by omega), if_pos]
  have : (511#32 : BitVec 32).toInt = 511 := by decide
  omega

section Checks

variable (id : IVec S512x1 32) (n : Fin 512)

/-- The experts' words, as a column. -/
abbrev column : IVec S512x1 32 := broadcastInDim S512x1 ![0] bcast_S512_S512x1_0 (shapeCast _ id shapeCasts_S512x1_S512)
/-- Each row's number beside its expert's word. -/
abbrev pairs : IVec S512x2 32 :=
  concatenate S512x2 1 [⟨S512x1, (broadcastInDim S512x1 ![0] bcast_S512_S512x1_0 (iotaInDim S512 32 0))⟩, ⟨S512x1, column id⟩] concatenates_S512x1_S512x1_S512x2_d1
/-- Whether a row's pair is in range. -/
abbrev pairOk : IVec S512 1 :=
  Host.reduce IntOp.andi (andi (cmpi .sge (pairs id) (broadcastInDim S512x2 ![] bcast_S_S512x2 (constantI S_ 32 0#32)))
    (cmpi .sle (pairs id) (broadcastInDim S512x2 ![0, 1] bcast_S1x2_S512x2_0_1 (broadcastInDim S1x2 ![1] bcast_S2_S1x2_1 ((fun i => lit0 (S2.rowMajor i)))))))
    (constantI S_ 1 1#1) reducesTo_S512x2_S512_d1 h_S_
/-- Whether a row's word is in range. -/
abbrev wordOk : IVec S512 1 :=
  Host.reduce IntOp.andi (andi (cmpi .sge (column id) (broadcastInDim S512x1 ![] bcast_S_S512x1 (constantI S_ 32 0#32)))
    (cmpi .sle (column id) (broadcastInDim S512x1 ![0, 1] bcast_S1x1_S512x1_0_1 (broadcastInDim S1x1 ![1] bcast_S1_S1x1_1 (constantI S1 32 15#32)))))
    (constantI S_ 1 1#1) reducesTo_S512x1_S512_d1 h_S_

theorem column_at : column id (ix2 n 0) = id (ix2 n 0) := by pointwise
theorem pairs_zero : pairs id (ix2 n 0) = BitVec.ofNat 32 n.val := by pointwise
theorem pairs_one : pairs id (ix2 n 1) = id (ix2 n 0) := by pointwise

theorem wordOk_at : wordOk id (ix1 n) = within 15#32 (id (ix2 n 0)) := by
  pointwise
  refine Eq.trans (?_ : _ = IntOp.andi (within 15#32 (id (ix2 n 0))) 1#1) ?_
  · rfl
  · exact and_one _

theorem pairOk_at : pairOk id (ix1 n) = within 15#32 (id (ix2 n 0)) := by
  pointwise
  refine Eq.trans (?_ : _ = IntOp.andi (within 511#32 (BitVec.ofNat 32 n.val)) (IntOp.andi (within 15#32 (id (ix2 n 0))) 1#1)) ?_
  · rfl
  · rw [within_row, and_one]; exact one_and _

end Checks

/-! ## The result -/

section Result

variable (x : FVec Ideal S512x256 .bf16) (rt : FVec Ideal S256x16 .bf16) (id : IVec S512x1 32) (ex : FVec Ideal S16x256x512 .bf16)
variable (sh : FVec Ideal S256x512 .bf16)

/-- The scores. -/
abbrev scores : FVec Ideal S512x16 .f32 :=
  Host.dotGeneral dot_S512x256_S256x16_S512x16_1_0_0_1_n_n none (extf .f32 x bitsLt_bf16_f32) (extf .f32 rt bitsLt_bf16_f32)
/-- The exponentials. -/
abbrev exps : FVec Ideal S512x16 .f32 :=
  Host.exp (subf (scores x rt) (broadcastInDim S512x16 ![0, 1] bcast_S512x1_S512x16_0_1 (broadcastInDim S512x1 ![0] bcast_S512_S512x1_0
    (Host.reduce FloatOps.maximumf (scores x rt) (constant S_ .f32 0xFF800000#32) reducesTo_S512x16_S512_d1 h_S_))))
/-- The probabilities. -/
abbrev probs : FVec Ideal S512x16 .f32 :=
  Host.divf (exps x rt) (broadcastInDim S512x16 ![0, 1] bcast_S512x1_S512x16_0_1 (broadcastInDim S512x1 ![0] bcast_S512_S512x1_0
    (Host.reduceAdd (exps x rt) (constant S_ .f32 0x00000000#32) reducesTo_S512x16_S512_d1 h_S_)))
/-- Each token's own probability. -/
abbrev weights : FVec Ideal S512 .f32 :=
  select (pairOk id) (Host.gather gather_S512x16_S512x2_S512_n_01_n_n_01_1_11 (probs x rt) (pairs id))
    (broadcastInDim S512 ![] bcast_S_S512 (constant S_ .f32 0x00000000#32))
/-- Each token's own matrix. -/
abbrev matrices : FVec Ideal S512x256x512 .f32 :=
  select (broadcastInDim S512x256x512 ![0] bcast_S512_S512x256x512_0 (wordOk id))
    (Host.gather gather_S16x256x512_S512x1_S512x256x512_12_0_n_n_0_1_1256512 (extf .f32 ex bitsLt_bf16_f32) (column id))
    (broadcastInDim S512x256x512 ![] bcast_S_S512x256x512 (constant S_ .f32 0x00000000#32))
/-- The whole result. -/
abbrev total : FVec Ideal S512x512 .f32 :=
  addf (Host.dotGeneral dot_S512x256_S256x512_S512x512_1_0_0_1_n_n none (extf .f32 x bitsLt_bf16_f32) (extf .f32 sh bitsLt_bf16_f32))
    (mulf (broadcastInDim S512x512 ![0, 1] bcast_S512x1_S512x512_0_1 (broadcastInDim S512x1 ![0] bcast_S512_S512x1_0 (weights x rt id)))
      (Host.dotGeneral dot_S512x256_S512x256x512_S512x512_1_1_n_2_0_0 none (extf .f32 x bitsLt_bf16_f32) (matrices id ex)))

variable (X : Fin 512 → Fin 256 → EReal) (R : Fin 256 → Fin 16 → EReal) (I : Fin 512 → BitVec 32)
variable (W : Fin 16 → Fin 256 → Fin 512 → EReal) (S : Fin 256 → Fin 512 → EReal)
variable (hx : ∀ n k, x (ix2 n k) = X n k) (hr : ∀ k e, rt (ix2 k e) = R k e) (hi : ∀ n, id (ix2 n 0) = I n)
variable (hw : ∀ e k h, ex (ix3 e k h) = W e k h) (hs : ∀ k h, sh (ix2 k h) = S k h)

include hx hr in
theorem exps_at (n : Fin 512) (e : Fin 16) : exps x rt (ix2 n e) = num X R n e := by
  pointwise
  simp only [hx, hr]
  rfl

include hx hr in
theorem probs_at (n : Fin 512) (e : Fin 16) : probs x rt (ix2 n e) = prob X R n e := by
  have hd : ∀ z : FVec Ideal S512x16 .f32,
      Host.divf z (broadcastInDim S512x16 ![0, 1] bcast_S512x1_S512x16_0_1 (broadcastInDim S512x1 ![0] bcast_S512_S512x1_0
        (Host.reduceAdd z (constant S_ .f32 0x00000000#32) reducesTo_S512x16_S512_d1 h_S_))) (ix2 n e)
        = Ideal.div (z (ix2 n e)) (∑ e', z (ix2 n e')) := by
    intro z
    pointwise
  rw [probs, hd]
  simp only [exps_at x rt X R hx hr]
  rfl

/-- The result from the weights and the matrices. -/
theorem total_at_of (g : FVec Ideal S512 .f32) (M : FVec Ideal S512x256x512 .f32) (n h : Fin 512) :
    addf (Host.dotGeneral dot_S512x256_S256x512_S512x512_1_0_0_1_n_n none (extf .f32 x bitsLt_bf16_f32) (extf .f32 sh bitsLt_bf16_f32))
      (mulf (broadcastInDim S512x512 ![0, 1] bcast_S512x1_S512x512_0_1 (broadcastInDim S512x1 ![0] bcast_S512_S512x1_0 g))
        (Host.dotGeneral dot_S512x256_S512x256x512_S512x512_1_1_n_2_0_0 none (extf .f32 x bitsLt_bf16_f32) M)) (ix2 n h)
      = (∑ k, x (ix2 n k) * sh (ix2 k h)) + g (ix1 n) * ∑ k, x (ix2 n k) * M (ix3 n k h) := by
  pointwise

theorem weights_at (n : Fin 512) : weights x rt id (ix1 n) = Scalar.select (within 15#32 (id (ix2 n 0)))
    (Host.gather gather_S512x16_S512x2_S512_n_01_n_n_01_1_11 (probs x rt) (pairs id) (ix1 n)) 0 := by
  rw [← pairOk_at id n]
  show Scalar.select (pairOk id (ix1 n)) _ _ = _
  refine congrArg _ ?_
  exact Ideal.ofBits_zero_f32

theorem matrices_at (n : Fin 512) (k : Fin 256) (h : Fin 512) : matrices id ex (ix3 n k h) = Scalar.select (within 15#32 (id (ix2 n 0)))
    (Host.gather gather_S16x256x512_S512x1_S512x256x512_12_0_n_n_0_1_1256512 (extf .f32 ex bitsLt_bf16_f32) (column id) (ix3 n k h)) 0 := by
  have hb : ∀ v : IVec S512 1, broadcastInDim S512x256x512 ![0] bcast_S512_S512x256x512_0 v (ix3 n k h) = v (ix1 n) := by
    intro v
    pointwise
  rw [← wordOk_at id n, ← hb (wordOk id)]
  show Scalar.select (broadcastInDim S512x256x512 ![0] bcast_S512_S512x256x512_0 (wordOk id) (ix3 n k h)) _ _ = _
  refine congrArg _ ?_
  exact Ideal.ofBits_zero_f32

include hx hr hi hw hs in
/-- **The reference's result**: the shared product plus what the experts contribute. -/
theorem total_at (n h : Fin 512) : total x rt id ex sh (ix2 n h) = (∑ k, X n k * S k h) + routed X R I W n h := by
  refine (total_at_of x sh (weights x rt id) (matrices id ex) n h).trans ?_
  simp only [weights_at, matrices_at, hx, hs]
  refine congrArg _ ?_
  by_cases he : ∃ e : Fin 16, BitVec.ofNat 32 e.val = I n
  · obtain ⟨e, he⟩ := he
    rw [routed_eq I W n h e he, hi, within_pos ⟨e, he⟩]
    rw [show ∀ a b : EReal, Scalar.select 1#1 a b = a from fun a b => rfl,
      pick_entry _ _ n e (pairs_zero id n) ((pairs_one id n).trans ((hi n).trans he.symm)), probs_at x rt X R hx hr]
    refine congrArg _ (Finset.sum_congr rfl fun k _ => ?_)
    rw [show ∀ a b : EReal, Scalar.select 1#1 a b = a from fun a b => rfl,
      pick_matrix _ _ n k h e ((column_at id n).trans ((hi n).trans he.symm))]
    exact congrArg _ (hw e k h)
  · rw [routed_none I W n h fun e h' => he ⟨e, h'⟩, hi, within_neg he]
    rw [show ∀ a b : EReal, Scalar.select 0#1 a b = b from fun a b => rfl, zero_mul]

end Result

/-- The reference's result is the one computed above, of its arguments. -/
theorem res_eq (m : (ℓ : Loc nD τ sig) → Buf (Elt Ideal) ℓ) (c : Dev nD) :
    Value.res_out0 m c = total (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v46
  rfl

end Cert.Indexed

end
-- ==== Proof.Algebraic.lean ====
/-
# The kernel computes the reference

Over the extended reals, when no token and no router weight is infinite, each device's 128 rows of the kernel's result are
its rows of the reference's.
-/
module

public import proofs.«01_k».proof.Defs
public import proofs.«01_k».proof.Proof.Launch
public import proofs.«01_k».proof.Proof.KernelValue
public import proofs.«01_k».proof.Proof.ReferenceValue
public import proofs.«01_k».proof.Proof.Gen.Pre_finite_KernelIdeal

@[expose] public section

set_option maxRecDepth 16384

noncomputable section

namespace Cert.Proof

open Idealize.ShloMosaic Idealize.SL.Sem
open Cert.Mixture

/-! ## The precondition -/

/-- A number whose size is below the infinity of the format is a real. -/
theorem real_of_small (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  have h1 : x ≠ ⊤ := fun e => by simp [e] at hlt
  have h2 : x ≠ ⊥ := fun e => by simp [e] at hlt
  exact ⟨x.toReal, (EReal.coe_toReal h1 h2).symm⟩

/-- The precondition says that tokens and router weights are reals. -/
theorem finite_of_pre (a0 : FVec Ideal Cert.Pre_finite_KernelIdeal.S512x256 .bf16) (a1 : FVec Ideal Cert.Pre_finite_KernelIdeal.S256x16 .bf16)
    (a2 : IVec Cert.Pre_finite_KernelIdeal.S512x1 32) (a3 : FVec Ideal Cert.Pre_finite_KernelIdeal.S4x256x512 .bf16)
    (a4 : FVec Ideal Cert.Pre_finite_KernelIdeal.S256x512 .bf16)
    (h0 : (Cert.Pre_finite_KernelIdeal.fn a0 a1 a2 a3 a4).1 = fun _ => 1#1) (h1 : (Cert.Pre_finite_KernelIdeal.fn a0 a1 a2 a3 a4).2 = fun _ => 1#1) :
    Finite (fun n k => a0 (ix2 n k)) fun k e => a1 (ix2 k e) :=
  ⟨fun n k => real_of_small _ (congrFun h0 (ix2 n k)), fun k e => real_of_small _ (congrFun h1 (ix2 k e))⟩

/-! ## The claim -/

/-- The arrays the reference's arguments are, and each device's part of them. -/
theorem holds_of_parts (m : (ℓ : Loc Cert.KernelIdeal.nD Cert.KernelIdeal.τ Cert.KernelIdeal.sig) → Buf (Elt Ideal) ℓ)
    (c : Dev Cert.KernelIdeal.nD) (a0 : FVec Ideal Cert.KernelIdeal.S512x256 .bf16) (a1 : FVec Ideal Cert.KernelIdeal.S256x16 .bf16)
    (a2 : IVec Cert.KernelIdeal.S512x1 32) (a3 : FVec Ideal Cert.ReferenceIdeal.S16x256x512 .bf16) (a4 : FVec Ideal Cert.KernelIdeal.S256x512 .bf16)
    (h0 : m ((c.tc : Thread Cert.KernelIdeal.nD Cert.KernelIdeal.τ).loc Cert.KernelIdeal.main_arg0) = a0)
    (h1 : m ((c.tc : Thread Cert.KernelIdeal.nD Cert.KernelIdeal.τ).loc Cert.KernelIdeal.main_arg1) = a1)
    (h2 : m ((c.tc : Thread Cert.KernelIdeal.nD Cert.KernelIdeal.τ).loc Cert.KernelIdeal.main_arg2) = a2)
    (h3 : m ((c.tc : Thread Cert.KernelIdeal.nD Cert.KernelIdeal.τ).loc Cert.KernelIdeal.main_arg3)
      = Layout.block ⟨3, ![4, 256, 512]⟩ ⟨3, ![16, 256, 512]⟩ 0 4 c a3)
    (h4 : m ((c.tc : Thread Cert.KernelIdeal.nD Cert.KernelIdeal.τ).loc Cert.KernelIdeal.main_arg4) = a4) :
    Cert.Exchange.Holds m c (fun n k => a0 (ix2 n k)) (fun k e => a1 (ix2 k e)) (fun n => a2 (ix2 n (0 : Fin 1)))
      (fun e k h => a3 (ix3 e k h)) (fun k h => a4 (ix2 k h)) where
  tokens n k := congrFun h0 (ix2 n k)
  router k e := congrFun h1 (ix2 k e)
  named n := congrFun h2 (ix2 n (0 : Fin 1))
  experts j k h := by
    refine (congrFun h3 (ix3 j k h)).trans ?_
    refine congrArg a3 ?_
    funext a; apply Fin.ext
    match a with
    | 0 => change c.val * 4 + j.val = 4 * c.val + j.val; omega
    | 1 => rfl
    | 2 => rfl
  shared k h := congrFun h4 (ix2 k h)

/-- **The kernel computes the reference.** -/
theorem algebraic : Cert.algebraic_KernelIdeal_ReferenceIdeal_pre_finite_KernelIdeal := by
  intro m g m' g' hpre hargs
  refine ⟨Cert.ReferenceIdeal.Value.res_out0 m' 0, ?_, ?_⟩
  · refine (θ_run Cert.KernelIdeal.defs _ _).mono (fun r h c => ⟨(h.1 c).1.trans ?_, (h.1 c).2⟩)
      (Cert.Exchange.run_main (F := Ideal) m g)
    have hall := fun c => holds_of_parts m c _ _ _ _ _ (hargs c).1 (hargs c).2.1 (hargs c).2.2.1 (hargs c).2.2.2.1 (hargs c).2.2.2.2
    have hf := finite_of_pre _ _ _ _ _ (hpre 0).1 (hpre 0).2
    rw [(hargs 0).1, (hargs 0).2.1] at hf
    funext i
    obtain ⟨p, q, rfl⟩ : ∃ (p : Fin 128) (q : Fin 512), i = ix2 p q := ⟨i 0, i 1, eq_ix2 i⟩
    refine (Cert.Exchange.outAt_at hall hf c p q).trans ?_
    refine Eq.trans ?_ (congrFun (Cert.Indexed.res_eq m' 0) _).symm
    have hidx : (Layout.Tiles.idx (S := ⟨2, ![128, 512]⟩) (T := ⟨2, ![512, 512]⟩) (a := 0) (k := 4) (by decide) c (ix2 p q))
        = ix2 (Cert.Exchange.tok c p) q := by
      funext a; apply Fin.ext
      match a with
      | 0 => change c.val * 128 + p.val = 128 * c.val + p.val; omega
      | 1 => rfl
    rw [hidx]
    exact (Cert.Indexed.total_at _ _ _ _ _ _ _ _ _ _ (fun _ _ => rfl) (fun _ _ => rfl) (fun _ => rfl) (fun _ _ _ => rfl) (fun _ _ => rfl) _ q).symm
  · exact (θ_run Cert.ReferenceIdeal.defs _ _).mono (fun r h => h 0) (Cert.ReferenceIdeal.Value.run (F := Ideal) m' g')

end Cert.Proof

end
-- ==== Proof.lean ====
/-
# The certificate

Every claim of `Cert.Claim`: the frames, the idealized kernel being the kernel's own text, and the kernel computing the
reference. The proofs are in the modules imported below; this one puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Every claim. The frames that state the precondition ask no more than the ones that state none. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_kernelIdeal, fun m ρ _ => frame_kernelIdeal m ρ trivial,
    frame_reference, fun m ρ _ => frame_reference m ρ trivial, trivial, algebraic⟩

end Cert.Proof

end
